-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)) (v5 : (c : Dev Cert.Kernel4Ideal.nD) → Buf (Elt Ideal) ((c.tc : Thread Cert.Kernel4Ideal.nD Cert.Kernel4Ideal.τ).loc Cert.Kernel4Ideal.main_v7_5)) (v6 : (c : Dev Cert.Kernel4Ideal.nD) → Buf (Elt Ideal) ((c.tc : Thread Cert.Kernel4Ideal.nD Cert.Kernel4Ideal.τ).loc Cert.Kernel4Ideal.main_v7_6)) (v7 : (c : Dev Cert.Kernel4Ideal.nD) → Buf (Elt Ideal) ((c.tc : Thread Cert.Kernel4Ideal.nD Cert.Kernel4Ideal.τ).loc Cert.Kernel4Ideal.main_v7_7)) (v8 : (c : Dev Cert.Kernel4Ideal.nD) → Buf (Elt Ideal) ((c.tc : Thread Cert.Kernel4Ideal.nD Cert.Kernel4Ideal.τ).loc Cert.Kernel4Ideal.main_v7_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_v7_5) = v5 c
          ∧ r.2.mem ((c.tc : Thread Cert.Kernel4Ideal.nD Cert.Kernel4Ideal.τ).loc Cert.Kernel4Ideal.main_v7_6) = v6 c
          ∧ r.2.mem ((c.tc : Thread Cert.Kernel4Ideal.nD Cert.Kernel4Ideal.τ).loc Cert.Kernel4Ideal.main_v7_7) = v7 c
          ∧ r.2.mem ((c.tc : Thread Cert.Kernel4Ideal.nD Cert.Kernel4Ideal.τ).loc Cert.Kernel4Ideal.main_v7_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v21) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v62) = v6 c
          ∧ r.2.mem ((c.tc : Thread Cert.Reference4Ideal.nD Cert.Reference4Ideal.τ).loc Cert.Reference4Ideal.main_v43) = v7 c
          ∧ r.2.mem ((c.tc : Thread Cert.Reference4Ideal.nD Cert.Reference4Ideal.τ).loc Cert.Reference4Ideal.main_v49) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)) (v4 : (c : Dev Cert.Kernel10Ideal.nD) → Buf (Elt Ideal) ((c.tc : Thread Cert.Kernel10Ideal.nD Cert.Kernel10Ideal.τ).loc Cert.Kernel10Ideal.main_v3_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_v3_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_v34) = v2 c
          ∧ r.2.mem ((c.tc : Thread Cert.Reference10Ideal.nD Cert.Reference10Ideal.τ).loc Cert.Reference10Ideal.main_v15) = v3 c
          ∧ r.2.mem ((c.tc : Thread Cert.Reference10Ideal.nD Cert.Reference10Ideal.τ).loc Cert.Reference10Ideal.main_v21) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v35) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)) (v4 : (c : Dev Cert.Kernel14Ideal.nD) → Buf (Elt Ideal) ((c.tc : Thread Cert.Kernel14Ideal.nD Cert.Kernel14Ideal.τ).loc Cert.Kernel14Ideal.main_v4_4)) (v5 : (c : Dev Cert.Kernel14Ideal.nD) → Buf (Elt Ideal) ((c.tc : Thread Cert.Kernel14Ideal.nD Cert.Kernel14Ideal.τ).loc Cert.Kernel14Ideal.main_v4_5)) (v6 : (c : Dev Cert.Kernel14Ideal.nD) → Buf (Elt Ideal) ((c.tc : Thread Cert.Kernel14Ideal.nD Cert.Kernel14Ideal.τ).loc Cert.Kernel14Ideal.main_v4_6)) (v7 : (c : Dev Cert.Kernel14Ideal.nD) → Buf (Elt Ideal) ((c.tc : Thread Cert.Kernel14Ideal.nD Cert.Kernel14Ideal.τ).loc Cert.Kernel14Ideal.main_v4_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_v4_4) = v4 c
          ∧ r.2.mem ((c.tc : Thread Cert.Kernel14Ideal.nD Cert.Kernel14Ideal.τ).loc Cert.Kernel14Ideal.main_v4_5) = v5 c
          ∧ r.2.mem ((c.tc : Thread Cert.Kernel14Ideal.nD Cert.Kernel14Ideal.τ).loc Cert.Kernel14Ideal.main_v4_6) = v6 c
          ∧ r.2.mem ((c.tc : Thread Cert.Kernel14Ideal.nD Cert.Kernel14Ideal.τ).loc Cert.Kernel14Ideal.main_v4_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v88) = v0 c
          ∧ r.2.mem ((c.tc : Thread Cert.Reference14Ideal.nD Cert.Reference14Ideal.τ).loc Cert.Reference14Ideal.main_v89) = v1 c
          ∧ r.2.mem ((c.tc : Thread Cert.Reference14Ideal.nD Cert.Reference14Ideal.τ).loc Cert.Reference14Ideal.main_v91) = v2 c
          ∧ r.2.mem ((c.tc : Thread Cert.Reference14Ideal.nD Cert.Reference14Ideal.τ).loc Cert.Reference14Ideal.main_v87) = v3 c
          ∧ r.2.mem ((c.tc : Thread Cert.Reference14Ideal.nD Cert.Reference14Ideal.τ).loc Cert.Reference14Ideal.main_v94) = v4 c
          ∧ r.2.mem ((c.tc : Thread Cert.Reference14Ideal.nD Cert.Reference14Ideal.τ).loc Cert.Reference14Ideal.main_v95) = v5 c
          ∧ r.2.mem ((c.tc : Thread Cert.Reference14Ideal.nD Cert.Reference14Ideal.τ).loc Cert.Reference14Ideal.main_v96) = v6 c
          ∧ r.2.mem ((c.tc : Thread Cert.Reference14Ideal.nD Cert.Reference14Ideal.τ).loc Cert.Reference14Ideal.main_v97) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v62) = v0 c
          ∧ r.2.mem ((c.tc : Thread Cert.Reference15Ideal.nD Cert.Reference15Ideal.τ).loc Cert.Reference15Ideal.main_v65) = v1 c
          ∧ r.2.mem ((c.tc : Thread Cert.Reference15Ideal.nD Cert.Reference15Ideal.τ).loc Cert.Reference15Ideal.main_v66) = v2 c
          ∧ r.2.mem ((c.tc : Thread Cert.Reference15Ideal.nD Cert.Reference15Ideal.τ).loc Cert.Reference15Ideal.main_v67) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v8) = v2 c
          ∧ r.2.mem ((c.tc : Thread Cert.Reference17Ideal.nD Cert.Reference17Ideal.τ).loc Cert.Reference17Ideal.main_v14) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite2 : Cert.Pre_finite2.Facts) (hPre_finite5 : Cert.Pre_finite5.Facts) (hPre_finite14 : Cert.Pre_finite14.Facts) (hPre_finite15 : Cert.Pre_finite15.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite14.lean ====
abbrev S4096x2048 : Shape := ⟨2, ![4096, 2048]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S4096x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S2048x11264 .f32) (main_arg2 : FVec F S5632x2048 .f32) (main_arg3 : FVec F S2048 .f32) (main_arg4 : FVec F S2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Pre_finite15.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_finite2.lean ====
abbrev S4096x2048 : Shape := ⟨2, ![4096, 2048]⟩
abbrev S2048x11264 : Shape := ⟨2, ![2048, 11264]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S2048x11264 .f32) (main_arg2 : FVec F S5632x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite5.lean ====
abbrev S4096x11264 : Shape := ⟨2, ![4096, 11264]⟩
abbrev S5632x2048 : Shape := ⟨2, ![5632, 2048]⟩
abbrev S4096x2048 : Shape := ⟨2, ![4096, 2048]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x11264 .f32) (main_arg1 : FVec F S5632x2048 .f32) (main_arg2 : FVec F S4096x2048 .f32) : IVec S_ 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel2.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S_ : Shape := ⟨0, ![]⟩
abbrev S4096x5632 : Shape := ⟨2, ![4096, 5632]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 19
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x2048, .bf16⟩
  | .hbm, ⟨5, _⟩ => ⟨S2048x11264, .bf16⟩
  | .hbm, ⟨6, _⟩ => ⟨S4096x11264, .f32⟩
  | .hbm, ⟨7, _⟩ => ⟨S4096x11264, .bf16⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x5632, .bf16⟩
  | .hbm, ⟨13, _⟩ => ⟨S4096x5632, .bf16⟩
  | .hbm, ⟨14, _⟩ => ⟨S2048x11264, .bf16⟩
  | .hbm, ⟨15, _⟩ => ⟨S5632x2048, .bf16⟩
  | .hbm, ⟨16, _⟩ => ⟨S4096x5632, .bf16⟩
  | .hbm, ⟨17, _⟩ => ⟨S4096x5632, .bf16⟩
  | .hbm, ⟨18, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v47 : BitVec 1 := Scalar.cmpi .eq arg1 c10_i32
  let v48 : BitVec 32 := Scalar.extui v47
  let c0_i32_27 : BitVec 32 := 0#32
  let v49 : BitVec 1 := Scalar.cmpi .ne v48 c0_i32_27
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x11264, .f32⟩
  | .hbm, ⟨33, _⟩ => ⟨S4096x5632, .f32⟩
  | .hbm, ⟨34, _⟩ => ⟨S4096x5632, .bf16⟩
  | .hbm, ⟨35, _⟩ => ⟨S4096x5632, .f32⟩
  | .hbm, ⟨36, _⟩ => ⟨S4096x5632, .bf16⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S5632x4096, .f32⟩
  | .hbm, ⟨3, _⟩ => ⟨S5632x4096, .bf16⟩
  | .hbm, ⟨4, _⟩ => ⟨S4096x2048, .bf16⟩
  | .hbm, ⟨5, _⟩ => ⟨S5632x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2048 : Shape := ⟨2, ![4096, 2048]⟩
abbrev S4096x11264 : Shape := ⟨2, ![4096, 11264]⟩
abbrev S2048x512 : Shape := ⟨2, ![2048, 512]⟩
abbrev S3x2048x512 : Shape := ⟨3, ![3, 2048, 512]⟩
abbrev S256x2048 : Shape := ⟨2, ![256, 2048]⟩
abbrev S3x256x2048 : Shape := ⟨3, ![3, 256, 2048]⟩
abbrev S2048x4096 : Shape := ⟨2, ![2048, 4096]⟩
abbrev S4096x5632 : Shape := ⟨2, ![4096, 5632]⟩
abbrev S8x2048x1408 : Shape := ⟨3, ![8, 2048, 1408]⟩
abbrev S512x4096 : Shape := ⟨2, ![512, 4096]⟩
abbrev S4096x1408 : Shape := ⟨2, ![4096, 1408]⟩
abbrev S1x512x1408 : Shape := ⟨3, ![1, 512, 1408]⟩
abbrev S512x1408 : Shape := ⟨2, ![512, 1408]⟩
abbrev S128x512 : Shape := ⟨2, ![128, 512]⟩
abbrev S3x128x512 : Shape := ⟨3, ![3, 128, 512]⟩
abbrev S16x2048 : Shape := ⟨2, ![16, 2048]⟩
abbrev S3x16x2048 : Shape := ⟨3, ![3, 16, 2048]⟩
abbrev S1x128x512 : Shape := ⟨3, ![1, 128, 512]⟩
abbrev S1x16x2048 : Shape := ⟨3, ![1, 16, 2048]⟩

abbrev nBuf : Space → Nat
  | .hbm => 28
  | .vmem => 48
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .bf16⟩
  | .hbm, ⟨6, _⟩ => ⟨S3x2048x512, .bf16⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .bf16⟩
  | .hbm, ⟨11, _⟩ => ⟨S3x256x2048, .bf16⟩
  | .hbm, ⟨12, _⟩ => ⟨S2048x4096, .f32⟩
  | .hbm, ⟨13, _⟩ => ⟨S2048x4096, .bf16⟩
  | .hbm, ⟨14, _⟩ => ⟨S4096x5632, .f32⟩
  | .hbm, ⟨15, _⟩ => ⟨S4096x5632, .bf16⟩
  | .hbm, ⟨16, _⟩ => ⟨S8x2048x1408, .bf16⟩
  | .hbm, ⟨17, _⟩ => ⟨S4096x5632, .f32⟩
  | .hbm, ⟨18, _⟩ => ⟨S4096x5632, .bf16⟩
  | .hbm, ⟨19, _⟩ => ⟨S8x2048x1408, .bf16⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x4096, .bf16⟩
  | .local _ .vmem, ⟨7, _⟩ => ⟨S512x4096, .bf16⟩
  | .local _ .vmem, ⟨8, _⟩ => ⟨S4096x1408, .bf16⟩
  | .local _ .vmem, ⟨9, _⟩ => ⟨S4096x1408, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .bf16⟩
  | .local _ .vmem, ⟨17, _⟩ => ⟨S128x512, .bf16⟩
  | .local _ .vmem, ⟨18, _⟩ => ⟨S3x128x512, .bf16⟩
  | .local _ .vmem, ⟨19, _⟩ => ⟨S3x128x512, .bf16⟩
  | .local _ .vmem, ⟨20, _⟩ => ⟨S16x2048, .f32⟩
  | .local _ .vmem, ⟨21, _⟩ => ⟨S16x2048, .f32⟩
  | .local _ .vmem, ⟨22, _⟩ => ⟨S16x2048, .f32⟩
  | .local _ .vmem, ⟨23, _⟩ => ⟨S16x2048, .f32⟩
  | .local _ .vmem, ⟨24, _⟩ => ⟨S16x2048, .f32⟩
  | .local _ .vmem, ⟨25, _⟩ => ⟨S16x2048, .f32⟩
  | .local _ .vmem, ⟨26, _⟩ => ⟨S16x2048, .bf16⟩
  | .local _ .vmem, ⟨27, _⟩ => ⟨S16x2048, .bf16⟩
  | .local _ .vmem, ⟨28, _⟩ => ⟨S3x16x2048, .bf16⟩
  | .local _ .vmem, ⟨29, _⟩ => ⟨S3x16x2048, .bf16⟩
  | .local _ .vmem, ⟨30, _⟩ => ⟨S1x512x1408, .bf16⟩
  | .local _ .vmem, ⟨31, _⟩ => ⟨S1x512x1408, .bf16⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x512, .f32⟩
  | .local _ .vmem, ⟨36, _⟩ => ⟨S128x512, .f32⟩
  | .local _ .vmem, ⟨37, _⟩ => ⟨S128x512, .f32⟩
  | .local _ .vmem, ⟨38, _⟩ => ⟨S128x512, .f32⟩
  | .local _ .vmem, ⟨39, _⟩ => ⟨S128x512, .f32⟩
  | .local _ .vmem, ⟨40, _⟩ => ⟨S16x2048, .f32⟩
  | .local _ .vmem, ⟨41, _⟩ => ⟨S16x2048, .f32⟩
  | .local _ .vmem, ⟨42, _⟩ => ⟨S16x2048, .f32⟩
  | .local _ .vmem, ⟨43, _⟩ => ⟨S16x2048, .f32⟩
  | .local _ .vmem, ⟨44, _⟩ => ⟨S16x2048, .f32⟩
  | .local _ .vmem, ⟨45, _⟩ => ⟨S16x2048, .f32⟩
  | .local _ .vmem, ⟨46, _⟩ => ⟨S16x2048, .f32⟩
  | .local _ .vmem, ⟨47, _⟩ => ⟨S16x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg13_1 : Ref sig .tc := ⟨.vmem, 33, rfl⟩
abbrev cc1_stg14_0 : Ref sig .tc := ⟨.vmem, 34, rfl⟩
abbrev cc1_stg14_1 : Ref sig .tc := ⟨.vmem, 35, rfl⟩
abbrev cc1_stg15_0 : Ref sig .tc := ⟨.vmem, 36, rfl⟩
abbrev cc1_stg15_1 : Ref sig .tc := ⟨.vmem, 37, rfl⟩
abbrev cc1_stg16_0 : Ref sig .tc := ⟨.vmem, 38, rfl⟩
abbrev cc1_stg16_1 : Ref sig .tc := ⟨.vmem, 39, rfl⟩
abbrev cc1_stg17_0 : Ref sig .tc := ⟨.vmem, 40, rfl⟩
abbrev cc1_stg17_1 : Ref sig .tc := ⟨.vmem, 41, rfl⟩
abbrev cc1_stg18_0 : Ref sig .tc := ⟨.vmem, 42, rfl⟩
abbrev cc1_stg18_1 : Ref sig .tc := ⟨.vmem, 43, rfl⟩
abbrev cc1_stg19_0 : Ref sig .tc := ⟨.vmem, 44, rfl⟩
abbrev cc1_stg19_1 : Ref sig .tc := ⟨.vmem, 45, rfl⟩
abbrev cc1_stg20_0 : Ref sig .tc := ⟨.vmem, 46, rfl⟩
abbrev cc1_stg20_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc1_sem15_0 : DmaSem sig := 36
abbrev cc1_sem15_1 : DmaSem sig := 37
abbrev cc1_sem16_0 : DmaSem sig := 38
abbrev cc1_sem16_1 : DmaSem sig := 39
abbrev cc1_sem17_0 : DmaSem sig := 40
abbrev cc1_sem17_1 : DmaSem sig := 41
abbrev cc1_sem18_0 : DmaSem sig := 42
abbrev cc1_sem18_1 : DmaSem sig := 43
abbrev cc1_sem19_0 : DmaSem sig := 44
abbrev cc1_sem19_1 : DmaSem sig := 45
abbrev cc1_sem20_0 : DmaSem sig := 46
abbrev cc1_sem20_1 : DmaSem sig := 47

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def k1_cond1 (i : grid1.Coords) : BitVec 1 :=
  let arg0 : BitVec 32 := BitVec.ofNat 32 (i 0).val
  let c4_i32 : BitVec 32 := 4#32
  let v9 : BitVec 32 := Scalar.muli arg0 c4_i32
  let arg1 : BitVec 32 := BitVec.ofNat 32 (i 1).val
  let v10 : BitVec 32 := Scalar.addi v9 arg1
  let c16_i32 : BitVec 32 := 16#32
  let v11 : BitVec 1 := Scalar.cmpi .slt v10 c16_i32
  let v12 : BitVec 32 := Scalar.extui v11
  let c0_i32 : BitVec 32 := 0#32
  let v13 : BitVec 1 := Scalar.cmpi .ne v12 c0_i32
  v13

def k1_cond2 (i : grid1.Coords) : BitVec 1 :=
  let arg0 : BitVec 32 := BitVec.ofNat 32 (i 0).val
  let c4_i32_6 : BitVec 32 := 4#32
  let v14 : BitVec 32 := Scalar.muli arg0 c4_i32_6
  let arg1 : BitVec 32 := BitVec.ofNat 32 (i 1).val
  let v15 : BitVec 32 := Scalar.addi v14 arg1
  let c16_i32_7 : BitVec 32 := 16#32
  let v16 : BitVec 1 := Scalar.cmpi .slt v15 c16_i32_7
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_7 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_10 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_11 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_12 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc1_transform_13 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc1_transform_14 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_15 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_16 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_17 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_18 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_19 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_20 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc1_transform_21 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S3x128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S16x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S16x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S16x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S16x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S3x16x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x1408 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S128x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S128x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S128x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S128x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S16x2048 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S16x2048 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S16x2048 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S16x2048 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]
-- ==== Reference4Ideal.lean ====
abbrev S4096x2048 : Shape := ⟨2, ![4096, 2048]⟩
abbrev S4096x11264 : Shape := ⟨2, ![4096, 11264]⟩
abbrev S2048x512 : Shape := ⟨2, ![2048, 512]⟩
abbrev S3x2048x512 : Shape := ⟨3, ![3, 2048, 512]⟩
abbrev S256x2048 : Shape := ⟨2, ![256, 2048]⟩
abbrev S3x256x2048 : Shape := ⟨3, ![3, 256, 2048]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .bf16⟩
  | .hbm, ⟨6, _⟩ => ⟨S3x2048x512, .bf16⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .bf16⟩
  | .hbm, ⟨11, _⟩ => ⟨S3x256x2048, .bf16⟩
  | .hbm, ⟨12, _⟩ => ⟨S_, .f32⟩
  | .hbm, ⟨13, _⟩ => ⟨S2048x11264, .f32⟩
  | .hbm, ⟨14, _⟩ => ⟨S4096x11264, .f32⟩
  | .hbm, ⟨15, _⟩ => ⟨S11264x2048, .f32⟩
  | .hbm, ⟨16, _⟩ => ⟨S2048x11264, .f32⟩
  | .hbm, ⟨17, _⟩ => ⟨S2048x8x1408, .f32⟩
  | .hbm, ⟨18, _⟩ => ⟨S8x2048x1408, .f32⟩
  | .hbm, ⟨19, _⟩ => ⟨S8x2048x1408, .bf16⟩
  | .hbm, ⟨20, _⟩ => ⟨S2048x512, .f32⟩
  | .hbm, ⟨21, _⟩ => ⟨S3x2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S_, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S2048x512, .f32⟩
  | .hbm, ⟨57, _⟩ => ⟨S2048x512, .f32⟩
  | .hbm, ⟨58, _⟩ => ⟨S256x2048, .f32⟩
  | .hbm, ⟨59, _⟩ => ⟨S3x256x2048, .f32⟩
  | .hbm, ⟨60, _⟩ => ⟨S_, .f32⟩
  | .hbm, ⟨61, _⟩ => ⟨S256x2048, .f32⟩
  | .hbm, ⟨62, _⟩ => ⟨S256x2048, .f32⟩
  | .hbm, ⟨63, _⟩ => ⟨S_, .f32⟩
  | .hbm, ⟨64, _⟩ => ⟨S256x2048, .f32⟩
  | .hbm, ⟨65, _⟩ => ⟨S256x2048, .f32⟩
  | .hbm, ⟨66, _⟩ => ⟨S_, .f32⟩
  | .hbm, ⟨67, _⟩ => ⟨S256x2048, .f32⟩
  | .hbm, ⟨68, _⟩ => ⟨S256x2048, .f32⟩
  | .hbm, ⟨69, _⟩ => ⟨S256x2048, .f32⟩
  | .hbm, ⟨70, _⟩ => ⟨S_, .f32⟩
  | .hbm, ⟨71, _⟩ => ⟨S256x2048, .f32⟩
  | .hbm, ⟨72, _⟩ => ⟨S256x2048, .f32⟩
  | .hbm, ⟨73, _⟩ => ⟨S256x2048, .f32⟩
  | .hbm, ⟨74, _⟩ => ⟨S_, .f32⟩
  | .hbm, ⟨75, _⟩ => ⟨S256x2048, .f32⟩
  | .hbm, ⟨76, _⟩ => ⟨S256x2048, .f32⟩
  | .hbm, ⟨77, _⟩ => ⟨S256x2048, .f32⟩
  | .hbm, ⟨78, _⟩ => ⟨S_, .f32⟩
  | .hbm, ⟨79, _⟩ => ⟨S256x2048, .f32⟩
  | .hbm, ⟨80, _⟩ => ⟨S256x2048, .f32⟩
  | .hbm, ⟨81, _⟩ => ⟨S_, .f32⟩
  | .hbm, ⟨82, _⟩ => ⟨S256x2048, .f32⟩
  | .hbm, ⟨83, _⟩ => ⟨S256x2048, .f32⟩
  | .hbm, ⟨84, _⟩ => ⟨S256x2048, .f32⟩
  | .hbm, ⟨85, _⟩ => ⟨S_, .f32⟩
  | .hbm, ⟨86, _⟩ => ⟨S256x2048, .f32⟩
  | .hbm, ⟨87, _⟩ => ⟨S256x2048, .f32⟩
  | .hbm, ⟨88, _⟩ => ⟨S256x2048, .f32⟩
  | .hbm, ⟨89, _⟩ => ⟨S_, .f32⟩
  | .hbm, ⟨90, _⟩ => ⟨S256x2048, .f32⟩
  | .hbm, ⟨91, _⟩ => ⟨S256x2048, .f32⟩
  | .hbm, ⟨92, _⟩ => ⟨S256x2048, .f32⟩
  | .hbm, ⟨93, _⟩ => ⟨S_, .f32⟩
  | .hbm, ⟨94, _⟩ => ⟨S256x2048, .f32⟩
  | .hbm, ⟨95, _⟩ => ⟨S256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_14 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_cst_16 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== Kernel5.lean ====
abbrev S4096x11264 : Shape := ⟨2, ![4096, 11264]⟩
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 11
  | .vmem => 12
  | .smem => 0
  | _ => 0

abbrev bufTy : (tb : Table) → Fin (tcTables nBuf tb) → BufTy
  | .hbm, ⟨0, _⟩ => ⟨S4096x11264, .f32⟩
  | .hbm, ⟨1, _⟩ => ⟨S5632x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S4096x11264, .bf16⟩
  | .hbm, ⟨8, _⟩ => ⟨S5632x2048, .bf16⟩
  | .hbm, ⟨9, _⟩ => ⟨S4096x5632, .bf16⟩
  | .hbm, ⟨10, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x11264 : Shape := ⟨2, ![4096, 11264]⟩
abbrev S5632x2048 : Shape := ⟨2, ![5632, 2048]⟩
abbrev S4096x2048 : Shape := ⟨2, ![4096, 2048]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x11264, .f32⟩
  | .hbm, ⟨31, _⟩ => ⟨S4096x5632, .f32⟩
  | .hbm, ⟨32, _⟩ => ⟨S4096x5632, .bf16⟩
  | .hbm, ⟨33, _⟩ => ⟨S4096x5632, .f32⟩
  | .hbm, ⟨34, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel6.lean ====
abbrev S4096x2048 : Shape := ⟨2, ![4096, 2048]⟩
abbrev S4096x11264 : Shape := ⟨2, ![4096, 11264]⟩
abbrev S2048x11264 : Shape := ⟨2, ![2048, 11264]⟩
abbrev S4096x5632 : Shape := ⟨2, ![4096, 5632]⟩
abbrev S512x256 : Shape := ⟨2, ![512, 256]⟩
abbrev S512x5632 : Shape := ⟨2, ![512, 5632]⟩
abbrev S256x5632 : Shape := ⟨2, ![256, 5632]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S2048x11264, .f32⟩
  | .hbm, ⟨3, _⟩ => ⟨S4096x5632, .f32⟩
  | .hbm, ⟨4, _⟩ => ⟨S4096x5632, .bf16⟩
  | .hbm, ⟨5, _⟩ => ⟨S4096x5632, .f32⟩
  | .hbm, ⟨6, _⟩ => ⟨S4096x5632, .bf16⟩
  | .hbm, ⟨7, _⟩ => ⟨S2048x11264, .bf16⟩
  | .hbm, ⟨8, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S512x5632, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S512x256, .f32⟩
  | .local _ .vmem, ⟨11, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S4096x11264 : Shape := ⟨2, ![4096, 11264]⟩
abbrev S2048x11264 : Shape := ⟨2, ![2048, 11264]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S2048x11264, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x11264, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S4096x4096 : Shape := ⟨2, ![4096, 4096]⟩
abbrev S2048x4096 : Shape := ⟨2, ![2048, 4096]⟩
abbrev S4096x2048 : Shape := ⟨2, ![4096, 2048]⟩
abbrev S512x4096 : Shape := ⟨2, ![512, 4096]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S4096x2048, .f32⟩
  | .hbm, ⟨3, _⟩ => ⟨S4096x4096, .bf16⟩
  | .hbm, ⟨4, _⟩ => ⟨S2048x4096, .bf16⟩
  | .hbm, ⟨5, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x4096 : Shape := ⟨2, ![4096, 4096]⟩
abbrev S2048x4096 : Shape := ⟨2, ![2048, 4096]⟩
abbrev S4096x2048 : Shape := ⟨2, ![4096, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x4096, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x2048, .f32⟩
  | .hbm, ⟨10, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x2048 : Shape := ⟨2, ![4096, 2048]⟩
abbrev S2048x4096 : Shape := ⟨2, ![2048, 4096]⟩
abbrev S2048x2048 : Shape := ⟨2, ![2048, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S4096x2048, .bf16⟩
  | .hbm, ⟨5, _⟩ => ⟨S2048x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S4096x4096 : Shape := ⟨2, ![4096, 4096]⟩
abbrev S2048x1408 : Shape := ⟨2, ![2048, 1408]⟩
abbrev S3x2048x1408 : Shape := ⟨3, ![3, 2048, 1408]⟩
abbrev S2048x4096 : Shape := ⟨2, ![2048, 4096]⟩
abbrev S8x2048x512 : Shape := ⟨3, ![8, 2048, 512]⟩
abbrev S512x4096 : Shape := ⟨2, ![512, 4096]⟩
abbrev S4096x512 : Shape := ⟨2, ![4096, 512]⟩
abbrev S64x1408 : Shape := ⟨2, ![64, 1408]⟩
abbrev S3x64x1408 : Shape := ⟨3, ![3, 64, 1408]⟩
abbrev S1x512x512 : Shape := ⟨3, ![1, 512, 512]⟩
abbrev S512x512 : Shape := ⟨2, ![512, 512]⟩
abbrev S1x64x1408 : Shape := ⟨3, ![1, 64, 1408]⟩

abbrev nBuf : Space → Nat
  | .hbm => 15
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .bf16⟩
  | .hbm, ⟨6, _⟩ => ⟨S3x2048x1408, .bf16⟩
  | .hbm, ⟨7, _⟩ => ⟨S2048x4096, .f32⟩
  | .hbm, ⟨8, _⟩ => ⟨S2048x4096, .bf16⟩
  | .hbm, ⟨9, _⟩ => ⟨S4096x4096, .bf16⟩
  | .hbm, ⟨10, _⟩ => ⟨S8x2048x512, .bf16⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S2048x1408, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .bf16⟩
  | .local _ .vmem, ⟨11, _⟩ => ⟨S64x1408, .bf16⟩
  | .local _ .vmem, ⟨12, _⟩ => ⟨S3x64x1408, .bf16⟩
  | .local _ .vmem, ⟨13, _⟩ => ⟨S3x64x1408, .bf16⟩
  | .local _ .vmem, ⟨14, _⟩ => ⟨S1x512x512, .bf16⟩
  | .local _ .vmem, ⟨15, _⟩ => ⟨S1x512x512, .bf16⟩
  | .local _ .vmem, ⟨16, _⟩ => ⟨S64x1408, .f32⟩
  | .local _ .vmem, ⟨17, _⟩ => ⟨S64x1408, .f32⟩
  | .local _ .vmem, ⟨18, _⟩ => ⟨S64x1408, .f32⟩
  | .local _ .vmem, ⟨19, _⟩ => ⟨S64x1408, .f32⟩
  | .local _ .vmem, ⟨20, _⟩ => ⟨S64x1408, .f32⟩
  | .local _ .vmem, ⟨21, _⟩ => ⟨S64x1408, .f32⟩
  | .local _ .vmem, ⟨22, _⟩ => ⟨S64x1408, .f32⟩
  | .local _ .vmem, ⟨23, _⟩ => ⟨S64x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v9 : BitVec 32 := Scalar.muli arg0 c4_i32
  let arg1 : BitVec 32 := BitVec.ofNat 32 (i 1).val
  let v10 : BitVec 32 := Scalar.addi v9 arg1
  let c32_i32 : BitVec 32 := 32#32
  let v11 : BitVec 1 := Scalar.cmpi .slt v10 c32_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x64x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference10Ideal.lean ====
abbrev S4096x2048 : Shape := ⟨2, ![4096, 2048]⟩
abbrev S4096x4096 : Shape := ⟨2, ![4096, 4096]⟩
abbrev S2048x1408 : Shape := ⟨2, ![2048, 1408]⟩
abbrev S3x2048x1408 : Shape := ⟨3, ![3, 2048, 1408]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .bf16⟩
  | .hbm, ⟨6, _⟩ => ⟨S3x2048x1408, .bf16⟩
  | .hbm, ⟨7, _⟩ => ⟨S_, .f32⟩
  | .hbm, ⟨8, _⟩ => ⟨S2048x4096, .f32⟩
  | .hbm, ⟨9, _⟩ => ⟨S4096x4096, .f32⟩
  | .hbm, ⟨10, _⟩ => ⟨S4096x2048, .f32⟩
  | .hbm, ⟨11, _⟩ => ⟨S2048x4096, .f32⟩
  | .hbm, ⟨12, _⟩ => ⟨S2048x8x512, .f32⟩
  | .hbm, ⟨13, _⟩ => ⟨S8x2048x512, .f32⟩
  | .hbm, ⟨14, _⟩ => ⟨S8x2048x512, .bf16⟩
  | .hbm, ⟨15, _⟩ => ⟨S2048x1408, .f32⟩
  | .hbm, ⟨16, _⟩ => ⟨S3x2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S2048x1408, .f32⟩
  | .hbm, ⟨42, _⟩ => ⟨S_, .f32⟩
  | .hbm, ⟨43, _⟩ => ⟨S2048x1408, .f32⟩
  | .hbm, ⟨44, _⟩ => ⟨S2048x1408, .f32⟩
  | .hbm, ⟨45, _⟩ => ⟨S2048x1408, .f32⟩
  | .hbm, ⟨46, _⟩ => ⟨S_, .f32⟩
  | .hbm, ⟨47, _⟩ => ⟨S2048x1408, .f32⟩
  | .hbm, ⟨48, _⟩ => ⟨S2048x1408, .f32⟩
  | .hbm, ⟨49, _⟩ => ⟨S2048x1408, .f32⟩
  | .hbm, ⟨50, _⟩ => ⟨S_, .f32⟩
  | .hbm, ⟨51, _⟩ => ⟨S2048x1408, .f32⟩
  | .hbm, ⟨52, _⟩ => ⟨S2048x1408, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel11.lean ====
abbrev S4096x11264 : Shape := ⟨2, ![4096, 11264]⟩
abbrev S4096x2048 : Shape := ⟨2, ![4096, 2048]⟩
abbrev S5632x2048 : Shape := ⟨2, ![5632, 2048]⟩
abbrev S2048 : Shape := ⟨1, ![2048]⟩
abbrev S1x2048 : Shape := ⟨2, ![1, 2048]⟩
abbrev S5632x4096 : Shape := ⟨2, ![5632, 4096]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x11264, .f32⟩
  | .hbm, ⟨1, _⟩ => ⟨S4096x2048, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S4096x11264, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S5632x4096, .bf16⟩
  | .hbm, ⟨10, _⟩ => ⟨S4096x2048, .f32⟩
  | .hbm, ⟨11, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x512, .bf16⟩
  | .local _ .vmem, ⟨11, _⟩ => ⟨S512x512, .bf16⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference11Ideal.lean ====
abbrev S4096x11264 : Shape := ⟨2, ![4096, 11264]⟩
abbrev S4096x2048 : Shape := ⟨2, ![4096, 2048]⟩
abbrev S5632x2048 : Shape := ⟨2, ![5632, 2048]⟩
abbrev S2048 : Shape := ⟨1, ![2048]⟩
abbrev S4096x5632 : Shape := ⟨2, ![4096, 5632]⟩
abbrev S_ : Shape := ⟨0, ![]⟩
abbrev S5632x4096 : Shape := ⟨2, ![5632, 4096]⟩
abbrev S4096 : Shape := ⟨1, ![4096]⟩
abbrev S4096x1 : Shape := ⟨2, ![4096, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S4096x2048, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S5632x4096, .f32⟩
  | .hbm, ⟨26, _⟩ => ⟨S5632x4096, .bf16⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S1x2048, .f32⟩
  | .hbm, ⟨54, _⟩ => ⟨S4096x2048, .f32⟩
  | .hbm, ⟨55, _⟩ => ⟨S4096x2048, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S4096x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S2048x256, .bf16⟩
  | .local _ .vmem, ⟨12, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S2048x4096, .f32⟩
  | .hbm, ⟨40, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel13.lean ====
abbrev S4096x2048 : Shape := ⟨2, ![4096, 2048]⟩
abbrev S2048x4096 : Shape := ⟨2, ![2048, 4096]⟩
abbrev S4096x4096 : Shape := ⟨2, ![4096, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x4096, .bf16⟩
  | .hbm, ⟨3, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x2048 : Shape := ⟨2, ![4096, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S4096x5632 : Shape := ⟨2, ![4096, 5632]⟩
abbrev S5632x4096 : Shape := ⟨2, ![5632, 4096]⟩
abbrev S8x128 : Shape := ⟨2, ![8, 128]⟩
abbrev S512x2048 : Shape := ⟨2, ![512, 2048]⟩
abbrev S2048x512 : Shape := ⟨2, ![2048, 512]⟩
abbrev S512x512 : Shape := ⟨2, ![512, 512]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 18
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S4096x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S4096x5632, .bf16⟩
  | .hbm, ⟨11, _⟩ => ⟨S4096x5632, .bf16⟩
  | .hbm, ⟨12, _⟩ => ⟨S5632x4096, .bf16⟩
  | .hbm, ⟨13, _⟩ => ⟨S4096x2048, .f32⟩
  | .hbm, ⟨14, _⟩ => ⟨S4096x2048, .bf16⟩
  | .hbm, ⟨15, _⟩ => ⟨S1x2048, .f32⟩
  | .hbm, ⟨16, _⟩ => ⟨S1x2048, .f32⟩
  | .hbm, ⟨17, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S1x2048, .f32⟩
  | .local _ .vmem, ⟨24, _⟩ => ⟨S8x128, .f32⟩
  | .local _ .vmem, ⟨25, _⟩ => ⟨S512x2048, .bf16⟩
  | .local _ .vmem, ⟨26, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg1 : BitVec 32 := BitVec.ofNat 32 (i 1).val
  let c10_i32 : BitVec 32 := 10#32
  let v41 : BitVec 1 := Scalar.cmpi .eq arg1 c10_i32
  let v42 : BitVec 32 := Scalar.extui v41
  let c0_i32_28 : BitVec 32 := 0#32
  let v43 : BitVec 1 := Scalar.cmpi .ne v42 c0_i32_28
  v43

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference14Ideal.lean ====
abbrev S4096x2048 : Shape := ⟨2, ![4096, 2048]⟩
abbrev S2048x11264 : Shape := ⟨2, ![2048, 11264]⟩
abbrev S5632x2048 : Shape := ⟨2, ![5632, 2048]⟩
abbrev S2048 : Shape := ⟨1, ![2048]⟩
abbrev S4096x11264 : Shape := ⟨2, ![4096, 11264]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S5632x4096 : Shape := ⟨2, ![5632, 4096]⟩
abbrev S8x128 : Shape := ⟨2, ![8, 128]⟩

abbrev nBuf : Space → Nat
  | .hbm => 141
  | .vmem => 0
  | .smem => 0
  | _ => 0

abbrev hbmTy0_0 (i : Nat) : BufTy := match i % 128 with
  | 0 => ⟨S4096x2048, .f32⟩
  | 1 => ⟨S2048x11264, .f32⟩
  | 2 => ⟨S5632x2048, .f32⟩
  | 3 => ⟨S2048, .f32⟩
  | 4 => ⟨S2048, .f32⟩
  | 5 => ⟨S4096x2048, .f32⟩
  | 6 => ⟨S4096x11264, .f32⟩
  | 7 => ⟨S4096x5632, .f32⟩
  | 8 => ⟨S4096x5632, .f32⟩
  | 9 => ⟨S4096x5632, .f32⟩
  | 10 => ⟨S4096x5632, .f32⟩
  | 11 => ⟨S_, .f32⟩
  | 12 => ⟨S4096x5632, .f32⟩
  | 13 => ⟨S4096x5632, .f32⟩
  | 14 => ⟨S_, .f32⟩
  | 15 => ⟨S4096x5632, .f32⟩
  | 16 => ⟨S4096x5632, .f32⟩
  | 17 => ⟨S4096x5632, .f32⟩
  | 18 => ⟨S4096x5632, .f32⟩
  | 19 => ⟨S_, .f32⟩
  | 20 => ⟨S4096x2048, .f32⟩
  | 21 => ⟨S4096x2048, .f32⟩
  | 22 => ⟨S4096x2048, .f32⟩
  | 23 => ⟨S_, .f32⟩
  | 24 => ⟨S4096x2048, .f32⟩
  | 25 => ⟨S4096x2048, .f32⟩
  | 26 => ⟨S4096x2048, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x2048, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S4096x2048, .f32⟩
  | 46 => ⟨S4096x2048, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x2048, .f32⟩
  | 56 => ⟨S4096x2048, .f32⟩
  | 57 => ⟨S1x2048, .f32⟩
  | 58 => ⟨S4096x2048, .f32⟩
  | 59 => ⟨S4096x2048, .f32⟩
  | 60 => ⟨S1x2048, .f32⟩
  | 61 => ⟨S4096x2048, .f32⟩
  | 62 => ⟨S4096x2048, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S_, .f32⟩
  | 69 => ⟨S4096, .f32⟩
  | 70 => ⟨S_, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x2048, .f32⟩
  | 85 => ⟨S4096x2048, .f32⟩
  | 86 => ⟨S_, .f32⟩
  | 87 => ⟨S2048, .f32⟩
  | 88 => ⟨S1x2048, .f32⟩
  | 89 => ⟨S_, .f32⟩
  | 90 => ⟨S2048, .f32⟩
  | 91 => ⟨S4096x2048, .f32⟩
  | 92 => ⟨S_, .f32⟩
  | 93 => ⟨S2048, .f32⟩
  | 94 => ⟨S1x2048, .f32⟩
  | 95 => ⟨S4096x2048, .f32⟩
  | 96 => ⟨S4096x2048, .f32⟩
  | 97 => ⟨S_, .f32⟩
  | 98 => ⟨S2048, .f32⟩
  | 99 => ⟨S4096x2048, .f32⟩
  | 100 => ⟨S_, .f32⟩
  | 101 => ⟨S4096, .f32⟩
  | 102 => ⟨S4096x1, .f32⟩
  | 103 => ⟨S4096x2048, .f32⟩
  | 104 => ⟨S4096x2048, .f32⟩
  | 105 => ⟨S4096x1, .f32⟩
  | 106 => ⟨S4096x2048, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x2048, .f32⟩
  | 116 => ⟨S4096x2048, .f32⟩
  | 117 => ⟨S4096x2048, .f32⟩
  | 118 => ⟨S_, .f32⟩
  | 119 => ⟨S4096, .f32⟩
  | 120 => ⟨S4096x1, .f32⟩
  | 121 => ⟨S4096x2048, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x5632, .bf16⟩
  | 3 => ⟨S4096x5632, .bf16⟩
  | 4 => ⟨S5632x4096, .f32⟩
  | 5 => ⟨S5632x4096, .bf16⟩
  | 6 => ⟨S_, .f32⟩
  | 7 => ⟨S4096x2048, .f32⟩
  | 8 => ⟨S4096x2048, .f32⟩
  | 9 => ⟨S4096x2048, .bf16⟩
  | 10 => ⟨S1x2048, .f32⟩
  | 11 => ⟨S1x2048, .f32⟩
  | 12 => ⟨S8x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_cst_13 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_cst_15 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_16 : Ref sig .tc := ⟨.hbm, 86, rfl⟩
abbrev main_v55 : Ref sig .tc := ⟨.hbm, 87, rfl⟩
abbrev main_v56 : Ref sig .tc := ⟨.hbm, 88, rfl⟩
abbrev main_cst_17 : Ref sig .tc := ⟨.hbm, 89, rfl⟩
abbrev main_v57 : Ref sig .tc := ⟨.hbm, 90, rfl⟩
abbrev main_v58 : Ref sig .tc := ⟨.hbm, 91, rfl⟩
abbrev main_cst_18 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_19 : Ref sig .tc := ⟨.hbm, 97, rfl⟩
abbrev main_v63 : Ref sig .tc := ⟨.hbm, 98, rfl⟩
abbrev main_v64 : Ref sig .tc := ⟨.hbm, 99, rfl⟩
abbrev main_cst_20 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_21 : Ref sig .tc := ⟨.hbm, 107, rfl⟩
abbrev main_v71 : Ref sig .tc := ⟨.hbm, 108, rfl⟩
abbrev main_v72 : Ref sig .tc := ⟨.hbm, 109, rfl⟩
abbrev main_cst_22 : Ref sig .tc := ⟨.hbm, 110, rfl⟩
abbrev main_v73 : Ref sig .tc := ⟨.hbm, 111, rfl⟩
abbrev main_v74 : Ref sig .tc := ⟨.hbm, 112, rfl⟩
abbrev main_cst_23 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_24 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_25 : Ref sig .tc := ⟨.hbm, 123, rfl⟩
abbrev main_v83 : Ref sig .tc := ⟨.hbm, 124, rfl⟩
abbrev main_v84 : Ref sig .tc := ⟨.hbm, 125, rfl⟩
abbrev main_cst_26 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_27 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]
-- ==== Kernel15.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S4096x2048, .bf16⟩
  | .hbm, ⟨89, _⟩ => ⟨S1x2048, .f32⟩
  | .hbm, ⟨90, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel16.lean ====
abbrev S2048x1408 : Shape := ⟨2, ![2048, 1408]⟩
abbrev S3x2048x1408 : Shape := ⟨3, ![3, 2048, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .bf16⟩
  | .hbm, ⟨4, _⟩ => ⟨S3x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S3x256x1408, .bf16⟩
  | .local _ .vmem, ⟨9, _⟩ => ⟨S3x256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x1408 : Shape := ⟨2, ![2048, 1408]⟩
abbrev S3x2048x1408 : Shape := ⟨3, ![3, 2048, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .bf16⟩
  | .hbm, ⟨4, _⟩ => ⟨S3x2048x1408, .bf16⟩
  | .hbm, ⟨5, _⟩ => ⟨S2048x1408, .f32⟩
  | .hbm, ⟨6, _⟩ => ⟨S3x2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | .hbm, ⟨39, _⟩ => ⟨S2048x1408, .f32⟩
  | .hbm, ⟨40, _⟩ => ⟨S_, .f32⟩
  | .hbm, ⟨41, _⟩ => ⟨S2048x1408, .f32⟩
  | .hbm, ⟨42, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel17.lean ====
abbrev S704x2048 : Shape := ⟨2, ![704, 2048]⟩
abbrev S3x704x2048 : Shape := ⟨3, ![3, 704, 2048]⟩
abbrev S176x2048 : Shape := ⟨2, ![176, 2048]⟩
abbrev S3x176x2048 : Shape := ⟨3, ![3, 176, 2048]⟩
abbrev S1x176x2048 : Shape := ⟨3, ![1, 176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .bf16⟩
  | .hbm, ⟨4, _⟩ => ⟨S3x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .bf16⟩
  | .local _ .vmem, ⟨7, _⟩ => ⟨S176x2048, .bf16⟩
  | .local _ .vmem, ⟨8, _⟩ => ⟨S3x176x2048, .bf16⟩
  | .local _ .vmem, ⟨9, _⟩ => ⟨S3x176x2048, .bf16⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S704x2048 : Shape := ⟨2, ![704, 2048]⟩
abbrev S3x704x2048 : Shape := ⟨3, ![3, 704, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .bf16⟩
  | .hbm, ⟨4, _⟩ => ⟨S3x704x2048, .bf16⟩
  | .hbm, ⟨5, _⟩ => ⟨S704x2048, .f32⟩
  | .hbm, ⟨6, _⟩ => ⟨S3x704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S_, .f32⟩
  | .hbm, ⟨14, _⟩ => ⟨S704x2048, .f32⟩
  | .hbm, ⟨15, _⟩ => ⟨S704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S704x2048, .f32⟩
  | .hbm, ⟨40, _⟩ => ⟨S_, .f32⟩
  | .hbm, ⟨41, _⟩ => ⟨S704x2048, .f32⟩
  | .hbm, ⟨42, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel18.lean ====
abbrev S1200x128 : Shape := ⟨2, ![1200, 128]⟩

abbrev nBuf : Space → Nat
  | .hbm => 7
  | .vmem => 7
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1200x128, .f32⟩
  | .hbm, ⟨4, _⟩ => ⟨S1200x128, .f32⟩
  | .hbm, ⟨5, _⟩ => ⟨S1200x128, .f32⟩
  | .hbm, ⟨6, _⟩ => ⟨S1200x128, .f32⟩
  | .local _ .vmem, ⟨0, _⟩ => ⟨S1200x128, .f32⟩
  | .local _ .vmem, ⟨1, _⟩ => ⟨S1200x128, .f32⟩
  | .local _ .vmem, ⟨2, _⟩ => ⟨S1200x128, .f32⟩
  | .local _ .vmem, ⟨3, _⟩ => ⟨S1200x128, .f32⟩
  | .local _ .vmem, ⟨4, _⟩ => ⟨S1200x128, .f32⟩
  | .local _ .vmem, ⟨5, _⟩ => ⟨S1200x128, .f32⟩
  | .local _ .vmem, ⟨6, _⟩ => ⟨S1200x128, .f32⟩
  | _, _ => ⟨S1200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S1200x128 : Shape := ⟨2, ![1200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1200x128, .f32⟩
  | .hbm, ⟨4, _⟩ => ⟨S_, .f32⟩
  | .hbm, ⟨5, _⟩ => ⟨S1200x128, .f32⟩
  | .hbm, ⟨6, _⟩ => ⟨S1200x128, .f32⟩
  | .hbm, ⟨7, _⟩ => ⟨S_, .f32⟩
  | .hbm, ⟨8, _⟩ => ⟨S1200x128, .f32⟩
  | .hbm, ⟨9, _⟩ => ⟨S1200x128, .f32⟩
  | .hbm, ⟨10, _⟩ => ⟨S1200x128, .f32⟩
  | .hbm, ⟨11, _⟩ => ⟨S_, .f32⟩
  | .hbm, ⟨12, _⟩ => ⟨S1200x128, .f32⟩
  | .hbm, ⟨13, _⟩ => ⟨S1200x128, .f32⟩
  | .hbm, ⟨14, _⟩ => ⟨S1200x128, .f32⟩
  | .hbm, ⟨15, _⟩ => ⟨S_, .f32⟩
  | .hbm, ⟨16, _⟩ => ⟨S1200x128, .f32⟩
  | .hbm, ⟨17, _⟩ => ⟨S1200x128, .f32⟩
  | .hbm, ⟨18, _⟩ => ⟨S1200x128, .f32⟩
  | .hbm, ⟨19, _⟩ => ⟨S_, .f32⟩
  | .hbm, ⟨20, _⟩ => ⟨S1200x128, .f32⟩
  | .hbm, ⟨21, _⟩ => ⟨S1200x128, .f32⟩
  | .hbm, ⟨22, _⟩ => ⟨S_, .f32⟩
  | .hbm, ⟨23, _⟩ => ⟨S1200x128, .f32⟩
  | .hbm, ⟨24, _⟩ => ⟨S1200x128, .f32⟩
  | .hbm, ⟨25, _⟩ => ⟨S1200x128, .f32⟩
  | .hbm, ⟨26, _⟩ => ⟨S_, .f32⟩
  | .hbm, ⟨27, _⟩ => ⟨S1200x128, .f32⟩
  | .hbm, ⟨28, _⟩ => ⟨S1200x128, .f32⟩
  | .hbm, ⟨29, _⟩ => ⟨S1200x128, .f32⟩
  | .hbm, ⟨30, _⟩ => ⟨S_, .f32⟩
  | .hbm, ⟨31, _⟩ => ⟨S1200x128, .f32⟩
  | .hbm, ⟨32, _⟩ => ⟨S1200x128, .f32⟩
  | .hbm, ⟨33, _⟩ => ⟨S1200x128, .f32⟩
  | .hbm, ⟨34, _⟩ => ⟨S_, .f32⟩
  | .hbm, ⟨35, _⟩ => ⟨S1200x128, .f32⟩
  | .hbm, ⟨36, _⟩ => ⟨S1200x128, .f32⟩
  | _, _ => ⟨S1200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8x1424x128 : Shape := ⟨3, ![8, 1424, 128]⟩
abbrev S1424x128 : Shape := ⟨2, ![1424, 128]⟩
abbrev S1x1424x128 : Shape := ⟨3, ![1, 1424, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1424x128, .f32⟩
  | .hbm, ⟨1, _⟩ => ⟨S1424x128, .f32⟩
  | .local _ .vmem, ⟨0, _⟩ => ⟨S8x1424x128, .f32⟩
  | .local _ .vmem, ⟨1, _⟩ => ⟨S1424x128, .f32⟩
  | _, _ => ⟨S8x1424x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1424x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1424x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference19Ideal.lean ====
abbrev S8x1424x128 : Shape := ⟨3, ![8, 1424, 128]⟩
abbrev S_ : Shape := ⟨0, ![]⟩
abbrev S1424x128 : Shape := ⟨2, ![1424, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1424x128, .f32⟩
  | .hbm, ⟨1, _⟩ => ⟨S_, .f32⟩
  | .hbm, ⟨2, _⟩ => ⟨S1424x128, .f32⟩
  | _, _ => ⟨S8x1424x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Act.lean ====
module

public import Idealize.ShloMosaic.Lib.Pointwise

@[expose] public section

noncomputable section

/-! The gate's activation, as the reference writes it. -/

namespace Cert.Act

open Idealize.ShloMosaic

/-- The logistic function. -/
def sig (x : EReal) : EReal := Ideal.div 1 (1 + Ideal.exp (-x))

/-- The gated product of a gate's and an up projection's entry. -/
def swiglu (g u : EReal) : EReal := g * sig g * u

/-- The logistic function written with a subtraction from zero. -/
theorem sig_of_sub (x : EReal) : Ideal.div 1 (1 + Ideal.exp (0 - x)) = sig x := by
  rw [zero_sub]
  rfl

end Cert.Act

end
-- ==== Proof.Reals.lean ====
module

public import Idealize.ShloMosaic.Lib.Pointwise
public import Idealize.ShloMosaic.Lib.ReduceAll
public import proofs.«01_k».proof.Proof.Act

@[expose] public section

noncomputable section

/-! Extended reals that are real numbers: what a claim's finiteness precondition says, and the arithmetic that keeps to them. -/

namespace Cert.Reals

open Idealize.ShloMosaic

/-- The extended real is a real number. -/
def IsReal (x : EReal) : Prop := ∃ r : ℝ, x = (r : EReal)

/-- Real numbers are closed under this. -/
theorem coe (r : ℝ) : IsReal (r : EReal) := ⟨r, rfl⟩

/-- Real numbers are closed under this. -/
theorem zero : IsReal 0 := ⟨0, rfl⟩

/-- Real numbers are closed under this. -/
theorem one : IsReal 1 := ⟨1, rfl⟩

/-- Real numbers are closed under this. -/
theorem add {x y : EReal} (hx : IsReal x) (hy : IsReal y) : IsReal (x + y) := by
  obtain ⟨a, rfl⟩ := hx
  obtain ⟨b, rfl⟩ := hy
  exact ⟨a + b, (EReal.coe_add a b).symm⟩

/-- Real numbers are closed under this. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- Real numbers are closed under this. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- Real numbers are closed under this. -/
theorem neg {x : EReal} (hx : IsReal x) : IsReal (-x) := by
  obtain ⟨a, rfl⟩ := hx
  exact ⟨-a, (EReal.coe_neg a).symm⟩

/-- Real numbers are closed under this. -/
theorem sum {ι : Type} (s : Finset ι) (f : ι → EReal) (h : ∀ i, IsReal (f i)) : IsReal (∑ i ∈ s, f i) := by
  choose g hg using h
  refine ⟨∑ i ∈ s, g i, ?_⟩
  simp only [hg]
  exact (map_sum (⟨⟨Real.toEReal, EReal.coe_zero⟩, EReal.coe_add⟩ : ℝ →+ EReal) g s).symm

/-- A single-precision pattern whose exponent is not all ones denotes a real number. -/
theorem ofBits (b : BitVec 32) (h : (b.extractLsb' 23 8).toNat ≠ 255) : IsReal (Ideal.ofBits .f32 b) := by
  unfold Ideal.ofBits Ideal.ieee
  simp only
  rw [if_neg (by simpa using h)]
  split
  · exact coe _
  · exact coe _

/-- A number whose absolute value is below infinity is real. -/
theorem of_abs_lt (x : EReal) (h : Ideal.cmp .olt (max x (-x)) (Ideal.ofBits .f32 0x7F800000#32) = 1#1) : IsReal x := by
  have hi : Ideal.ofBits .f32 0x7F800000#32 = ⊤ := by
    simp [Ideal.ofBits, Ideal.ieee]
  rw [hi] at h
  unfold Ideal.cmp at h
  have hlt : max x (-x) < ⊤ := by
    by_contra hn
    simp [hn] at h
  induction x with
  | bot => simp at hlt
  | top => simp at hlt
  | coe r => exact coe r

/-- An array the precondition compares with infinity holds real numbers. -/
theorem of_all {s : Shape} (x : FVec Ideal s .f32) {t u : Shape} [Subsingleton t.Idx] {axes : List (Fin s.rank)} (dims : Fin u.rank → Fin s.rank)
    (hb : u.BroadcastsInDim s dims) (init : u.Idx → BitVec 1)
    (h : s.ReducesTo axes t) (hu : 0 < u.numel) (j : t.Idx)
    (e : Host.reduce IntOp.andi (cmpf .olt (Host.absf x) (broadcastInDim s dims hb (constant u .f32 0x7F800000#32))) init h hu j = 1#1) (i : s.Idx) :
    IsReal (x i) :=
  of_abs_lt (x i) (Host.reduce_andi_all _ init h hu j e i)

/-- The logistic function of a real number. -/
theorem sig_coe (r : ℝ) : Act.sig (r : EReal) = (((1 + Real.exp (-r))⁻¹ : ℝ) : EReal) := Ideal.logistic_coe r

/-- Real numbers are closed under this. -/
theorem sig {x : EReal} (hx : IsReal x) : IsReal (Act.sig x) := by
  obtain ⟨r, rfl⟩ := hx
  exact ⟨_, sig_coe r⟩

/-- The derivative of the gated activation, with the derivative of the logistic function multiplied out. -/
theorem swish_grad {d u g : EReal} (hd : IsReal d) (hu : IsReal u) (hg : IsReal g) :
    d * u * (Act.sig g * (1 + g * (1 - Act.sig g))) = d * u * Act.sig g + g * (d * u) * (Act.sig g * (1 - Act.sig g)) := by
  obtain ⟨s, hs⟩ := sig hg
  obtain ⟨d, rfl⟩ := hd
  obtain ⟨u, rfl⟩ := hu
  obtain ⟨g, rfl⟩ := hg
  rw [hs]
  norm_cast
  ring

end Cert.Reals

end
-- ==== Proof.FfnBwd.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Reals
public import proofs.«01_k».proof.Defs
public import Idealize.ShloMosaic.Lib.Pipeline.ValueKit
public import Idealize.ShloMosaic.Lib.Pointwise

@[expose] public section

set_option maxRecDepth 16384

noncomputable section

namespace Cert.Kernel2Ideal.FfnBwd

open Cert.Kernel2Ideal Cert.Kernel2Ideal.Gen Idealize.ShloMosaic Idealize.ShloMosaic.TcCoe Idealize.SL.Sem

variable (m : (ℓ : Loc nD τ sig) → Buf (Elt Ideal) ℓ)

/-- The block's input. -/
abbrev x (c : Dev nD) : S4096x2048.Idx → EReal := m ((c : Thread nD τ).loc main_arg0)
/-- The gate's and the up projection's weights, side by side. -/
abbrev wgu (c : Dev nD) : S2048x11264.Idx → EReal := m ((c : Thread nD τ).loc main_arg1)
/-- The down projection's weights. -/
abbrev wd (c : Dev nD) : S5632x2048.Idx → EReal := m ((c : Thread nD τ).loc main_arg2)
/-- The gradient of the block's result before its norm. -/
abbrev dz (c : Dev nD) : S4096x2048.Idx → EReal := m ((c : Thread nD τ).loc main_arg3)

/-- The gate's and the up projection's results, side by side. -/
def gu (c : Dev nD) (r : Fin 4096) (q : Fin 11264) : EReal := ∑ k : Fin 2048, x m c (ix2 r k) * wgu m c (ix2 k q)
/-- A gate's entry. -/
def gate (c : Dev nD) (r : Fin 4096) (q : Fin 5632) : EReal := gu m c r ⟨q.val, by omega⟩
/-- An up projection's entry. -/
def up (c : Dev nD) (r : Fin 4096) (q : Fin 5632) : EReal := gu m c r ⟨5632 + q.val, by omega⟩
/-- The gradient of the gated product. -/
def dh (c : Dev nD) (r : Fin 4096) (q : Fin 5632) : EReal :=
  ∑ k : Fin 2048, Ideal.ofBits .f32 0x3F000000#32 * dz m c (ix2 r k) * wd m c (ix2 q k)
/-- The gradient of the gate's entries, as the kernel writes it. -/
def dg (c : Dev nD) (r : Fin 4096) (q : Fin 5632) : EReal :=
  dh m c r q * up m c r q * (Act.sig (gate m c r q) * (1 + gate m c r q * (1 - Act.sig (gate m c r q))))
/-- The gradient of the up projection's entries. -/
def du (c : Dev nD) (r : Fin 4096) (q : Fin 5632) : EReal := dh m c r q * (gate m c r q * Act.sig (gate m c r q))

/-- The array of the gate's gradients. -/
def dgA (c : Dev nD) : S4096x5632.Idx → EReal := fun i => dg m c (i 0) (i 1)
/-- The array of the up projection's gradients. -/
def duA (c : Dev nD) : S4096x5632.Idx → EReal := fun i => du m c (i 0) (i 1)
/-- The gradient of the block's input: the residual's share and the two projections'. -/
def dx (c : Dev nD) : S4096x2048.Idx → EReal := fun i =>
  Ideal.ofBits .f32 0x3F9837F0#32 * dz m c i
    + ((∑ k : Fin 5632, dg m c (i 0) k * wgu m c (ix2 (i 1) ⟨k.val, by omega⟩))
      + ∑ k : Fin 5632, du m c (i 0) k * wgu m c (ix2 (i 1) ⟨5632 + k.val, by omega⟩))

/-! ### The blocks -/

/-- Which block each window shows at each grid point. -/
theorem idx : ∀ t : Fin grid0.N, win0_0.index t = ![t.val / 11, 0] ∧ win0_1.index t = ![t.val / 11, 0]
    ∧ win0_2.index t = ![t.val / 11, t.val % 11] ∧ win0_3.index t = ![t.val / 11, t.val % 11] ∧ win0_4.index t = ![0, t.val % 11]
    ∧ win0_5.index t = ![0, t.val % 11 + 11] ∧ win0_6.index t = ![t.val % 11, 0] ∧ win0_7.index t = ![t.val / 11, t.val % 11]
    ∧ win0_8.index t = ![t.val / 11, t.val % 11] ∧ win0_9.index t = ![t.val / 11, 0] := by
  decide +kernel

/-- The array's row that row `p` of point `t`'s block is. -/
abbrev rowAt (t : Fin grid0.N) (p : Fin 512) : Fin 4096 :=
  ⟨t.val / 11 * 512 + p.val, by have ht : t.val < 88 := lt_of_lt_of_eq t.isLt N_0; have := p.isLt; omega⟩

/-- The hidden feature that column `k` of point `t`'s block is. -/
abbrev colAt (t : Fin grid0.N) (k : Fin 512) : Fin 5632 :=
  ⟨t.val % 11 * 512 + k.val, by have := k.isLt; omega⟩

/-- What the window shows of its array, entry by entry. -/
theorem block_dz (c : Dev nD) (t : Fin grid0.N) (p : Fin 512) (k : Fin 2048) :
    @Eq EReal (iblk m c 0 t (ix2 p k)) (dz m c (ix2 (rowAt t p) k)) := by
  unfold dz
  blk_point [iblk, V, (idx t).1]

/-- The halved gradient the kernel reads. -/
theorem V_half (c : Dev nD) : @Eq (S4096x2048.Idx → EReal) (V m c main_v6) fun i => Ideal.ofBits .f32 0x3F000000#32 * dz m c i := by
  funext i
  entry_read
  pointwise

/-- The gate's results the kernel reads. -/
theorem V_gate (c : Dev nD) : @Eq (S4096x5632.Idx → EReal) (V m c main_v7) fun i => gate m c (i 0) (i 1) := by
  funext i
  entry_read
  pointwise
  rfl

/-- The up projection's results the kernel reads. -/
theorem V_up (c : Dev nD) : @Eq (S4096x5632.Idx → EReal) (V m c main_v8) fun i => up m c (i 0) (i 1) := by
  funext i
  entry_read
  pointwise
  rfl

/-- What the window shows of its array, entry by entry. -/
theorem block_do (c : Dev nD) (t : Fin grid0.N) (p : Fin 512) (k : Fin 2048) :
    @Eq EReal (iblk m c 1 t (ix2 p k)) (Ideal.ofBits .f32 0x3F000000#32 * dz m c (ix2 (rowAt t p) k)) := by
  refine Eq.trans (b := V m c main_v6 (ix2 (rowAt t p) k)) ?_ (congrFun (V_half m c) _)
  blk_point [iblk, (idx t).2.1]

/-- What the window shows of its array, entry by entry. -/
theorem block_gate (c : Dev nD) (t : Fin grid0.N) (p k : Fin 512) :
    @Eq EReal (iblk m c 2 t (ix2 p k)) (gate m c (rowAt t p) (colAt t k)) := by
  refine Eq.trans (b := V m c main_v7 (ix2 (rowAt t p) (colAt t k))) ?_ (congrFun (V_gate m c) _)
  blk_point [iblk, (idx t).2.2.1]

/-- What the window shows of its array, entry by entry. -/
theorem block_up (c : Dev nD) (t : Fin grid0.N) (p k : Fin 512) :
    @Eq EReal (iblk m c 3 t (ix2 p k)) (up m c (rowAt t p) (colAt t k)) := by
  refine Eq.trans (b := V m c main_v8 (ix2 (rowAt t p) (colAt t k))) ?_ (congrFun (V_up m c) _)
  blk_point [iblk, (idx t).2.2.2.1]

/-- What the window shows of its array, entry by entry. -/
theorem block_wg (c : Dev nD) (t : Fin grid0.N) (q : Fin 2048) (k : Fin 512) :
    @Eq EReal (iblk m c 4 t (ix2 q k)) (wgu m c (ix2 q ⟨(colAt t k).val, by omega⟩)) := by
  unfold wgu
  blk_point [iblk, V, (idx t).2.2.2.2.1]

/-- What the window shows of its array, entry by entry. -/
theorem block_wu (c : Dev nD) (t : Fin grid0.N) (q : Fin 2048) (k : Fin 512) :
    @Eq EReal (iblk m c 5 t (ix2 q k)) (wgu m c (ix2 q ⟨5632 + (colAt t k).val, by omega⟩)) := by
  unfold wgu
  blk_point [iblk, V, (idx t).2.2.2.2.2.1]

/-- What the window shows of its array, entry by entry. -/
theorem block_wd (c : Dev nD) (t : Fin grid0.N) (k : Fin 512) (q : Fin 2048) :
    @Eq EReal (iblk m c 6 t (ix2 k q)) (wd m c (ix2 (colAt t k) q)) := by
  unfold wd
  blk_point [iblk, V, (idx t).2.2.2.2.2.2.1]

/-- Reading back what was stored over the whole scratch array. -/
theorem read_scratch (h : scM0_0.IsWhole) (v : Vec Ideal S512x2048 .f32) : View.read (Elt Ideal) (View.whole cc0_scratch0) (h.unread v) = v :=
  h.read_unread v

/-- Every point stores its block of the gate's gradients. -/
theorem stored_dg (c : Dev nD) (t : Fin cfg0.N) (p k : Fin 512) :
    @Eq EReal ((outsAt0 m c t.val t.isLt).1 (ix2 p k)) (dg m c (rowAt t p) (colAt t k)) := by
  by_cases h0 : t.val % 11 = 0
  · rw [outsAt0_A m c t h0 (by omega)]
    frame_out
    unfold_payloads
    pointwise
    simp only [block_do, block_gate, block_up, block_wd, Act.sig_of_sub]
    rfl
  by_cases h1 : t.val % 11 = 10
  · rw [outsAt0_C m c t h0 h1]
    frame_out
    unfold_payloads
    pointwise
    simp only [block_do, block_gate, block_up, block_wd, Act.sig_of_sub]
    rfl
  · rw [outsAt0_B m c t h0 h1]
    frame_out
    unfold_payloads
    pointwise
    simp only [block_do, block_gate, block_up, block_wd, Act.sig_of_sub]
    rfl

/-- Every point stores its block of the up projection's gradients. -/
theorem stored_du (c : Dev nD) (t : Fin cfg0.N) (p k : Fin 512) :
    @Eq EReal ((outsAt0 m c t.val t.isLt).2.1 (ix2 p k)) (du m c (rowAt t p) (colAt t k)) := by
  by_cases h0 : t.val % 11 = 0
  · rw [outsAt0_A m c t h0 (by omega)]
    frame_out
    unfold_payloads
    pointwise
    simp only [block_do, block_gate, block_up, block_wd, Act.sig_of_sub]
    rfl
  by_cases h1 : t.val % 11 = 10
  · rw [outsAt0_C m c t h0 h1]
    frame_out
    unfold_payloads
    pointwise
    simp only [block_do, block_gate, block_up, block_wd, Act.sig_of_sub]
    rfl
  · rw [outsAt0_B m c t h0 h1]
    frame_out
    unfold_payloads
    pointwise
    simp only [block_do, block_gate, block_up, block_wd, Act.sig_of_sub]
    rfl

/-- What a point adds to the accumulator: its hidden features' part of the two products. -/
def part (c : Dev nD) (p : Fin 512) (q : Fin 2048) (t : Fin cfg0.N) : EReal :=
  (∑ k : Fin 512, dg m c (rowAt t p) (colAt t k) * wgu m c (ix2 q ⟨(colAt t k).val, by omega⟩))
    + ∑ k : Fin 512, du m c (rowAt t p) (colAt t k) * wgu m c (ix2 q ⟨5632 + (colAt t k).val, by omega⟩)

/-- After the last point of a run of eleven the accumulator holds the two whole products. -/
theorem product (c : Dev nD) (t : Fin cfg0.N) (ht : t.val % 11 = 10) (p : Fin 512) (q : Fin 2048) :
    @Eq EReal ((outsAt0 m c t.val t.isLt).2.2.2 (ix2 p q))
      ((∑ k : Fin 5632, dg m c (rowAt t p) k * wgu m c (ix2 q ⟨k.val, by omega⟩))
        + ∑ k : Fin 5632, du m c (rowAt t p) k * wgu m c (ix2 q ⟨5632 + k.val, by omega⟩)) := by
  refine (Pipeline.eq_sum_fin_of_reset_step_of_flush (M := EReal) (fun n h => (outsAt0 m c n h).2.2.2 (ix2 p q)) 11 0 (part m c p q)
    (fun s h0 => ?_) (fun s h0 => ?_) t ht).trans ?_
  · rw [outsAt0_A m c s h0 (by omega), zero_add]
    frame_out
    unfold_payloads
    pointwise
    simp only [block_do, block_gate, block_up, block_wd, block_wg, block_wu, Act.sig_of_sub]
    rfl
  · by_cases h1 : s.val % 11 = 10
    · rw [outsAt0_C m c s h0 h1]
      frame_out
      unfold_payloads
      pointwise
      simp only [read_scratch, block_do, block_gate, block_up, block_wd, block_wg, block_wu, Act.sig_of_sub]
      rfl
    · rw [outsAt0_B m c s h0 h1]
      frame_out
      unfold_payloads
      pointwise
      simp only [read_scratch, block_do, block_gate, block_up, block_wd, block_wg, block_wu, Act.sig_of_sub]
      rfl
  · rw [zero_add]
    unfold part
    rw [Finset.sum_add_distrib]
    have ht : t.val < 88 := lt_of_lt_of_eq t.isLt N_0
    refine congrArg₂ (· + ·) (Fin.sum_mul_add_congr (n := 512) fun s k hl => ?_) (Fin.sum_mul_add_congr (n := 512) fun s k hl => ?_)
    all_goals
      have e1 : (11 * (t.val / 11) + s.val) / 11 = t.val / 11 := by have := s.isLt; omega
      have e2 : (11 * (t.val / 11) + s.val) % 11 = s.val := by have := s.isLt; omega
      simp only [rowAt, colAt, e1, e2]

/-- The last point of a run stores the input's gradient's rows. -/
theorem stored_dx (c : Dev nD) (t : Fin cfg0.N) (ht : t.val % 11 = 10) (p : Fin 512) (q : Fin 2048) :
    @Eq EReal ((outsAt0 m c t.val t.isLt).2.2.1 (ix2 p q)) (dx m c (ix2 (rowAt t p) q)) := by
  have hp := product m c t ht p q
  rw [outsAt0_C m c t (by omega) ht] at hp ⊢
  revert hp
  frame_out
  unfold_payloads
  pointwise
  intro hp
  rw [hp, block_dz]
  rfl

/-! ### The arrays -/

/-- What the whole output array holds at the end. -/
theorem final_dg (c : Dev nD) : (dats m 0 c).arrAt 7 cfg0.N = dgA m c := by
  refine (dats m 0 c).arrAt_eq_of_covers 7 _ (by decide +kernel) fun t hf y => ?_
  obtain ⟨p, k, rfl⟩ : ∃ (p k : Fin 512), y = ix2 p k := ⟨y 0, y 1, eq_ix2 y⟩
  blk_simp
  rw [after0_7]
  refine (stored_dg m c t p k).trans (congrArg (dgA m c) (a₁ := ix2 (rowAt t p) (colAt t k)) ?_)
  funext a
  apply Fin.ext
  match a with
  | ⟨0, _⟩ => show t.val / 11 * 512 + p.val = win0_7.index t 0 * 512 + 1 * p.val; rw [(idx t).2.2.2.2.2.2.2.1]; simp
  | ⟨1, _⟩ => show t.val % 11 * 512 + k.val = win0_7.index t 1 * 512 + 1 * k.val; rw [(idx t).2.2.2.2.2.2.2.1]; simp

/-- What the whole output array holds at the end. -/
theorem final_du (c : Dev nD) : (dats m 0 c).arrAt 8 cfg0.N = duA m c := by
  refine (dats m 0 c).arrAt_eq_of_covers 8 _ (by decide +kernel) fun t hf y => ?_
  obtain ⟨p, k, rfl⟩ : ∃ (p k : Fin 512), y = ix2 p k := ⟨y 0, y 1, eq_ix2 y⟩
  blk_simp
  rw [after0_8]
  refine (stored_du m c t p k).trans (congrArg (duA m c) (a₁ := ix2 (rowAt t p) (colAt t k)) ?_)
  funext a
  apply Fin.ext
  match a with
  | ⟨0, _⟩ => show t.val / 11 * 512 + p.val = win0_8.index t 0 * 512 + 1 * p.val; rw [(idx t).2.2.2.2.2.2.2.2.1]; simp
  | ⟨1, _⟩ => show t.val % 11 * 512 + k.val = win0_8.index t 1 * 512 + 1 * k.val; rw [(idx t).2.2.2.2.2.2.2.2.1]; simp

/-- What the whole output array holds at the end. -/
theorem final_dx (c : Dev nD) : (dats m 0 c).arrAt 9 cfg0.N = dx m c := by
  refine (dats m 0 c).arrAt_eq_of_covers 9 _ (by decide +kernel) fun t hf y => ?_
  obtain ⟨p, q, rfl⟩ : ∃ (p : Fin 512) (q : Fin 2048), y = ix2 p q := ⟨y 0, y 1, eq_ix2 y⟩
  blk_simp
  rw [after0_9]
  refine (stored_dx m c t ((flush0_9 t).mp hf) p q).trans (congrArg (dx m c) ?_)
  funext a
  apply Fin.ext
  match a with
  | ⟨0, _⟩ => show t.val / 11 * 512 + p.val = win0_9.index t 0 * 512 + 1 * p.val; rw [(idx t).2.2.2.2.2.2.2.2.2]; simp
  | ⟨1, _⟩ => show q.val = win0_9.index t 1 * 2048 + 1 * q.val; rw [(idx t).2.2.2.2.2.2.2.2.2]; simp

/-! ### The reference -/

/-- What the precondition says: the four arrays hold real numbers. -/
theorem reals (h : Cert.Pre_Kernel2Ideal_finite2 (hPre_finite2 := Cert.Pre_finite2.Gen.facts) m) (c : Dev nD) :
    (∀ i, Reals.IsReal (x m c i)) ∧ (∀ i, Reals.IsReal (wgu m c i)) ∧ (∀ i, Reals.IsReal (wd m c i)) ∧ (∀ i, Reals.IsReal (dz m c i)) := by
  have e := congrFun (h c) (fun a => Fin.elim0 a)
  dsimp only [Cert.Pre_finite2.fn] at e
  obtain ⟨e, e3⟩ := IntOp.andi_eq_one.mp e
  obtain ⟨e, e2⟩ := IntOp.andi_eq_one.mp e
  obtain ⟨e0, e1⟩ := IntOp.andi_eq_one.mp e
  haveI : Subsingleton Cert.Pre_finite2.S_.Idx := ⟨fun a b => funext fun d => Fin.elim0 d⟩
  exact ⟨Reals.of_all _ _ _ _ _ _ _ e0, Reals.of_all _ _ _ _ _ _ _ e1, Reals.of_all _ _ _ _ _ _ _ e2, Reals.of_all _ _ _ _ _ _ _ e3⟩

/-- Under the precondition these products and sums are real numbers. -/
theorem real_gu (h : Cert.Pre_Kernel2Ideal_finite2 (hPre_finite2 := Cert.Pre_finite2.Gen.facts) m) (c : Dev nD) (r : Fin 4096) (q : Fin 11264) :
    Reals.IsReal (gu m c r q) :=
  Reals.sum _ _ fun _ => Reals.mul ((reals m h c).1 _) ((reals m h c).2.1 _)

/-- Under the precondition these products and sums are real numbers. -/
theorem real_dh (h : Cert.Pre_Kernel2Ideal_finite2 (hPre_finite2 := Cert.Pre_finite2.Gen.facts) m) (c : Dev nD) (r : Fin 4096) (q : Fin 5632) :
    Reals.IsReal (dh m c r q) :=
  Reals.sum _ _ fun _ => Reals.mul (Reals.mul (Reals.ofBits _ (by decide)) ((reals m h c).2.2.2 _)) ((reals m h c).2.2.1 _)

open Cert.Reference2Ideal.Read in
/-- The reference computes the same function. -/
theorem ref_dh (c : Dev nD) : val_main_v8 (F := Ideal) (wd m c) (dz m c) = fun i => dh m c (i 0) (i 1) := by
  funext i
  pointwise [val_main_v8, val_main_v7, val_main_v6, val_main_cst]
  rfl

open Cert.Reference2Ideal.Read in
/-- The reference computes the same function. -/
theorem ref_gate (c : Dev nD) : val_main_v1 (F := Ideal) (x m c) (wgu m c) = fun i => gate m c (i 0) (i 1) := by
  funext i
  pointwise [val_main_v1, val_main_v0]
  rfl

open Cert.Reference2Ideal.Read in
/-- The reference computes the same function. -/
theorem ref_up (c : Dev nD) : val_main_v2 (F := Ideal) (x m c) (wgu m c) = fun i => up m c (i 0) (i 1) := by
  funext i
  pointwise [val_main_v2, val_main_v0]
  rfl

open Cert.Reference2Ideal.Read in
/-- The reference computes the same function. -/
theorem ref_sig (c : Dev nD) : val_main_v3_2 (F := Ideal) (x m c) (wgu m c) = fun i => Act.sig (gate m c (i 0) (i 1)) := by
  funext i
  pointwise [val_main_v3_2, val_main_call0_v4, val_main_call0_v3, val_main_call0_v2, val_main_call0_v1, val_main_call0_v0, val_main_call0_cst, val_main_call0_cst_0]
  rw [ref_gate]
  rfl

open Cert.Reference2Ideal.Read in
/-- The reference computes the same function. -/
theorem ref_v9 (c : Dev nD) : val_main_v9 (F := Ideal) (x m c) (wgu m c) (wd m c) (dz m c) = fun i => du m c (i 0) (i 1) := by
  funext i
  pointwise [val_main_v9, val_main_v3_0]
  rw [ref_gate, ref_sig, ref_dh]
  exact mul_comm _ _

open Cert.Reference2Ideal.Read in
/-- The reference computes the same function. -/
theorem ref_v11 (h : Cert.Pre_Kernel2Ideal_finite2 (hPre_finite2 := Cert.Pre_finite2.Gen.facts) m) (c : Dev nD) :
    val_main_v11 (F := Ideal) (x m c) (wgu m c) (wd m c) (dz m c) = fun i => dg m c (i 0) (i 1) := by
  funext i
  pointwise [val_main_v11, val_main_v10, val_main_call1_v2, val_main_call1_v1, val_main_call1_v0, val_main_v3_1, val_main_call0_v7, val_main_call0_v6, val_main_call0_cst_1]
  rw [ref_gate, ref_sig, ref_dh, ref_up]
  exact (Reals.swish_grad (real_dh m h c _ _) (real_gu m h c _ _) (real_gu m h c _ _)).symm

open Cert.Reference2Ideal.Read in
/-- The reference computes the same function. -/
theorem ref_dg (h : Cert.Pre_Kernel2Ideal_finite2 (hPre_finite2 := Cert.Pre_finite2.Gen.facts) m) (c : Dev nD) :
    val_main_v14 (F := Ideal) (x m c) (wgu m c) (wd m c) (dz m c) = dgA m c := by
  funext i
  pointwise [val_main_v14, val_main_v13, val_main_v12]
  rw [ref_v11 m h]
  rfl

open Cert.Reference2Ideal.Read in
/-- The reference computes the same function. -/
theorem ref_du (c : Dev nD) : val_main_v16 (F := Ideal) (x m c) (wgu m c) (wd m c) (dz m c) = duA m c := by
  funext i
  pointwise [val_main_v16, val_main_v15, val_main_v12]
  rw [ref_v9]
  rfl

open Cert.Reference2Ideal.Read in
/-- The reference computes the same function. -/
theorem ref_dx (h : Cert.Pre_Kernel2Ideal_finite2 (hPre_finite2 := Cert.Pre_finite2.Gen.facts) m) (c : Dev nD) :
    val_main_v20 (F := Ideal) (x m c) (wgu m c) (wd m c) (dz m c) = dx m c := by
  funext i
  pointwise [val_main_v20, val_main_v19, val_main_v18, val_main_v17, val_main_cst_0]
  unfold dx
  congr 1
  refine (Fin.sum_univ_add (a := 5632) (b := 5632) _).trans ?_
  refine congrArg₂ (· + ·) (Finset.sum_congr rfl fun k _ => ?_) (Finset.sum_congr rfl fun k _ => ?_)
  · pointwise [val_main_v12]
    rw [dif_pos (show (Fin.castAdd 5632 k).val < 5632 from k.isLt), ref_v11 m h]
    rfl
  · pointwise [val_main_v12]
    have e : (⟨5632 + k.val - 5632, by omega⟩ : Fin 5632) = k := Fin.ext (by simp)
    rw [dif_neg (show ¬ (Fin.natAdd 5632 k).val < 5632 from Nat.not_lt.mpr (Nat.le_add_right _ _)), ref_v9]
    exact congrArg (fun q => du m c (i 0) q * wgu m c (ix2 (i 1) ⟨5632 + k.val, by omega⟩)) e

end Cert.Kernel2Ideal.FfnBwd

open Cert.Kernel2Ideal.FfnBwd Idealize.ShloMosaic Idealize.SL.Sem in
/-- The kernel and the reference leave the same arrays, at finite arguments. -/
theorem Cert.Kernel2Ideal.FfnBwd.algebraic :
    Cert.algebraic_Kernel2Ideal_Reference2Ideal_pre_finite2 (hPre_finite2 := Cert.Pre_finite2.Gen.facts) := by
  intro m g m' g' hpre h
  refine ⟨fun c => dgA m c, fun c => duA m c, fun c => dx m c, (θ_run _ _ _).mono (fun r hr c => ?_) (Cert.Kernel2Ideal.Value.run_blocks m g),
    (θ_run _ _ _).mono (fun r hr c => ?_) (Cert.Reference2Ideal.Value.run m' g')⟩
  · obtain ⟨h0, h1, h2, hk⟩ := hr c
    exact ⟨h0.trans (final_dg m c), h1.trans (final_du m c), h2.trans (final_dx m c), hk⟩
  · obtain ⟨h0, h1, h2, hk⟩ := hr c
    obtain ⟨e0, e1, e2, e3⟩ := h c
    have a := ref_dg m hpre c
    have b := ref_du m c
    have d := ref_dx m hpre c
    unfold x wgu wd dz at a b d
    rw [← e0, ← e1, ← e2, ← e3] at a b d
    exact ⟨h0.trans a, h1.trans b, h2.trans d, hk⟩

end
-- ==== Proof.DwDown.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Pipeline.ValueKit
public import Idealize.ShloMosaic.Lib.Pointwise

@[expose] public section

set_option maxRecDepth 16384

noncomputable section

namespace Cert.Kernel3Ideal.Dw

open Cert.Kernel3Ideal Cert.Kernel3Ideal.Gen Idealize.ShloMosaic Idealize.ShloMosaic.TcCoe Idealize.SL.Sem

variable (m : (ℓ : Loc nD τ sig) → Buf (Elt Ideal) ℓ)

/-- An argument of the call, as the device holds it. -/
abbrev a0 (c : Dev nD) : S4096x5632.Idx → EReal := m ((c : Thread nD τ).loc main_arg0)
/-- An argument of the call, as the device holds it. -/
abbrev a1 (c : Dev nD) : S4096x2048.Idx → EReal := m ((c : Thread nD τ).loc main_arg1)

/-- The gradient of the weight, as one function of the arguments. -/
def G (c : Dev nD) : S5632x2048.Idx → EReal := fun i =>
  ∑ k : Fin 4096, a0 m c (ix2 k (i 0)) * a1 m c (ix2 k (i 1))

/-- Which block each window shows at each grid point. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the whole output array holds at the end. -/
theorem final (c : Dev nD) : (dats m 0 c).arrAt 2 cfg0.N = G m c := by
  refine (dats m 0 c).arrAt_eq_of_covers 2 _ (by decide +kernel) fun t hf y => ?_
  blk_simp
  rw [after0_2]
  frame_out
  unfold_payloads
  pointwise
  unfold G a0 a1
  change @Eq EReal _ _
  blk_point [iblk, V, (idx t).1, (idx t).2]

/-- The reference computes the same function. -/
theorem ref (c : Dev nD) : Cert.Reference3Ideal.Read.val_main_v4 (F := Ideal) (a0 m c) (a1 m c) = G m c := by
  funext i
  pointwise [Cert.Reference3Ideal.Read.val_main_v4, Cert.Reference3Ideal.Read.val_main_v3, Cert.Reference3Ideal.Read.val_main_v2]
  unfold G
  exact Finset.sum_congr rfl fun k _ => mul_comm _ _

end Cert.Kernel3Ideal.Dw

open Idealize.ShloMosaic Idealize.SL.Sem in
/-- The kernel and its reference compute the same function of the arguments. -/
theorem Cert.Kernel3Ideal.Dw.algebraic : Cert.algebraic_Kernel3Ideal_Reference3Ideal := by
  intro m g m' g' _ h
  refine ⟨fun c => Cert.Kernel3Ideal.Dw.G m c, (θ_run _ _ _).mono (fun r hr c => ?_) (Cert.Kernel3Ideal.Value.run_blocks m g),
    (θ_run _ _ _).mono (fun r hr c => ?_) (Cert.Reference3Ideal.Value.run m' g')⟩
  · obtain ⟨h0, h1⟩ := hr c
    exact ⟨h0.trans (Cert.Kernel3Ideal.Dw.final m c), h1⟩
  · obtain ⟨h0, h1⟩ := hr c
    refine ⟨h0.trans ?_, h1⟩
    rw [(h c).1, (h c).2]
    exact Cert.Kernel3Ideal.Dw.ref m c

end
-- ==== Proof.DwGateUpRun.lean ====
module

public import proofs.«01_k».proof.Proof.Gen.Kernel4Ideal.Frame
public import Idealize.ShloMosaic.Lib.Tactic
public import proofs.«01_k».proof.Defs
public import Idealize.ShloMosaic.Lib.Pipeline.ValueKit
public import Idealize.ShloMosaic.Lib.Pointwise

@[expose] public section

set_option maxRecDepth 16384

noncomputable section

namespace Cert.Kernel4Ideal.DwGateUp

/-! What the two calls in a row leave: each result is what the second call's pipeline folds into its array. -/

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, and then every array outside the kernels holds the contents after the second call. -/
theorem run_end : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The same, result by result. -/
theorem run_blocks : θ_run defs (onTc (τ := τ) (main (F := F))) ⟨m, fun _ => 0, ρ⟩ (fun r => ∀ c : Dev nD,
      r.2.mem ((c.tc : Thread nD τ).loc main_v7_0) = (dat1 (V3 m ρ) c).arrAt 12 cfg1.N
      ∧ r.2.mem ((c.tc : Thread nD τ).loc main_v7_1) = (dat1 (V3 m ρ) c).arrAt 13 cfg1.N
      ∧ r.2.mem ((c.tc : Thread nD τ).loc main_v7_2) = (dat1 (V3 m ρ) c).arrAt 14 cfg1.N
      ∧ r.2.mem ((c.tc : Thread nD τ).loc main_v7_3) = (dat1 (V3 m ρ) c).arrAt 15 cfg1.N
      ∧ r.2.mem ((c.tc : Thread nD τ).loc main_v7_4) = (dat1 (V3 m ρ) c).arrAt 16 cfg1.N
      ∧ r.2.mem ((c.tc : Thread nD τ).loc main_v7_5) = (dat1 (V3 m ρ) c).arrAt 17 cfg1.N
      ∧ r.2.mem ((c.tc : Thread nD τ).loc main_v7_6) = (dat1 (V3 m ρ) c).arrAt 18 cfg1.N
      ∧ r.2.mem ((c.tc : Thread nD τ).loc main_v7_7) = (dat1 (V3 m ρ) c).arrAt 19 cfg1.N
      ∧ r.2.mem ((c.tc : Thread nD τ).loc main_v7_8) = (dat1 (V3 m ρ) c).arrAt 20 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v7_0 (by decide))).trans (W4_arr m ρ c 12),
     (h c _ (mem_uc main_v7_1 (by decide))).trans (W4_arr m ρ c 13),
     (h c _ (mem_uc main_v7_2 (by decide))).trans (W4_arr m ρ c 14),
     (h c _ (mem_uc main_v7_3 (by decide))).trans (W4_arr m ρ c 15),
     (h c _ (mem_uc main_v7_4 (by decide))).trans (W4_arr m ρ c 16),
     (h c _ (mem_uc main_v7_5 (by decide))).trans (W4_arr m ρ c 17),
     (h c _ (mem_uc main_v7_6 (by decide))).trans (W4_arr m ρ c 18),
     (h c _ (mem_uc main_v7_7 (by decide))).trans (W4_arr m ρ c 19),
     (h c _ (mem_uc main_v7_8 (by decide))).trans (W4_arr m ρ c 20),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_end m ρ)

end Cert.Kernel4Ideal.DwGateUp

end
-- ==== Proof.Adam.lean ====
module

public import Idealize.ShloMosaic.Lib.Pointwise

@[expose] public section

noncomputable section

/-! The AdamW step on one entry, as the reference writes it. -/

namespace Cert.Adam

open Idealize.ShloMosaic

/-- The running mean of the gradients after gradient `g`. -/
def mean (g m : EReal) : EReal :=
  Ideal.ofBits .f32 0x3F666666#32 * m + Ideal.ofBits .f32 0x3DCCCCCD#32 * g

/-- The running mean of the squared gradients after gradient `g`. -/
def square (g v : EReal) : EReal :=
  Ideal.ofBits .f32 0x3F7FBE77#32 * v + Ideal.ofBits .f32 0x3A83126F#32 * (g * g)

/-- How far the weight `w` moves. -/
def move (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Adam

end
-- ==== Proof.DwGateUpValue.lean ====
module

public import proofs.«01_k».proof.Proof.Gen.Kernel4Ideal.Frame
public import proofs.«01_k».proof.Proof.Adam
public import Idealize.ShloMosaic.Lib.Pipeline.ValueKit.Partial
public import proofs.«01_k».proof.Defs
public import Idealize.ShloMosaic.Lib.Pipeline.ValueKit
public import Idealize.ShloMosaic.Lib.Pointwise

@[expose] public section

set_option maxRecDepth 16384

noncomputable section

namespace Cert.Kernel4Ideal.DwGateUp

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

/-- The activations the two projections multiplied. -/
abbrev x (c : Dev nD) : S4096x2048.Idx → EReal := m ((c : Thread nD τ).loc main_arg0)
/-- The gradients of the two projections' results, side by side. -/
abbrev dgu (c : Dev nD) : S4096x11264.Idx → EReal := m ((c : Thread nD τ).loc main_arg1)

/-- The gradient of the two weight matrices, their columns cut in eight blocks: `∑ₖ x[k, i₁] · dgu[k, 1408·i₀ + i₂]`. -/
def G (c : Dev nD) : S8x2048x1408.Idx → EReal := fun i =>
  ∑ k : Fin 4096, x m c (ix2 k (i 1)) * dgu m c (ix2 k ⟨(i 0).val * 1408 + (i 2).val, by have h0 : (i 0).val < 8 := (i 0).isLt; have h2 : (i 2).val < 1408 := (i 2).isLt; omega⟩)

/-! ### The first call: the gate's blocks -/

/-- Which block each window shows at each grid point. -/
theorem idx0 : ∀ t : Fin grid0.N, win0_0.index t = ![t.val % 4, 0] ∧ win0_1.index t = ![0, t.val / 4]
    ∧ win0_2.index t = ![t.val / 4, t.val % 4, 0] := by decide +kernel

/-- The array's column that row `p` of point `t`'s block of `xᵀ` is. -/
abbrev rowAt (t : Fin 16) (p : Fin 512) : Fin 2048 := ⟨t.val % 4 * 512 + p.val, by have := p.isLt; omega⟩

/-- The gate's column that column `q` of point `t`'s block is. -/
abbrev colAt (t : Fin 16) (q : Fin 1408) : Fin 5632 := ⟨t.val / 4 * 1408 + q.val, by have := q.isLt; omega⟩

/-- The transposed activations the first call reads. -/
theorem V1_x (c : Dev nD) : @Eq (S2048x4096.Idx → EReal) (V1 m ρ c main_v1) fun i => x m c (ix2 (i 1) (i 0)) := by
  unfold V1 W1
  funext i
  entry_read
  pointwise

/-- The gate's gradients the first call reads. -/
theorem V1_dg (c : Dev nD) : @Eq (S4096x5632.Idx → EReal) (V1 m ρ c main_v3) fun i => dgu m c (ix2 (i 0) ⟨(i 1).val, lt_trans (i 1).isLt (by decide)⟩) := by
  unfold V1 W1
  funext i
  entry_read
  pointwise

/-- What the window shows of its array, entry by entry. -/
theorem block0_x (c : Dev nD) (t : Fin grid0.N) (p : Fin 512) (k : Fin 4096) :
    @Eq EReal (iblk0 (V1 m ρ) c 0 t (ix2 p k)) (x m c (ix2 k (rowAt t p))) := by
  refine Eq.trans (b := V1 m ρ c main_v1 (ix2 (rowAt t p) k)) ?_ (congrFun (V1_x m ρ c) _)
  blk_point [iblk0, (idx0 t).1]

/-- What the window shows of its array, entry by entry. -/
theorem block0_dg (c : Dev nD) (t : Fin grid0.N) (k : Fin 4096) (q : Fin 1408) :
    @Eq EReal (iblk0 (V1 m ρ) c 1 t (ix2 k q)) (dgu m c (ix2 k ⟨(colAt t q).val, by omega⟩)) := by
  refine Eq.trans (b := V1 m ρ c main_v3 (ix2 k (colAt t q))) ?_ (congrFun (V1_dg m ρ c) _)
  blk_point [iblk0, (idx0 t).2.1]

/-- Every point of the first call stores its block of the product. -/
theorem stored0 (c : Dev nD) (t : Fin cfg0.N) (z : Fin 1) (p : Fin 512) (q : Fin 1408) :
    @Eq EReal (out0_2 (iblk0 (V1 m ρ) c 0 t) (iblk0 (V1 m ρ) c 1 t) (ix3 z p q))
      (∑ k : Fin 4096, x m c (ix2 k (rowAt t p)) * dgu m c (ix2 k ⟨(colAt t q).val, by omega⟩)) := by
  frame_out
  unfold_payloads
  pointwise
  simp only [block0_x, block0_dg]

/-- The first call leaves the gate's four blocks in the first four. -/
theorem final0 (c : Dev nD) : (dat0 (V1 m ρ) c).arrAt 2 cfg0.N
    = fun i : S8x2048x1408.Idx => if (i 0).val < 4 then G m c i else (dat0 (V1 m ρ) c).A 2 i := by
  refine (dat0 (V1 m ρ) c).arrAt_eq_of_coversWhere 2 (G m c) (P := fun i : S8x2048x1408.Idx => (i 0).val < 4) (fun β => β (0 : Fin 3) < 4)
    (by decide +kernel) (fun t hf y => ?_) (fun j => by blk_simp [Pipeline.Window.cell_apply]; omega)
  obtain ⟨z, p, q, rfl⟩ : ∃ (z : Fin 1) (p : Fin 512) (q : Fin 1408), y = ix3 z p q := ⟨y 0, y 1, y 2, eq_ix3 y⟩
  have ht : t.val < 16 := t.isLt
  have hz : z.val = 0 := by omega
  blk_simp
  rw [after0_2]
  refine (stored0 m ρ c t z p q).trans (congrArg (G m c) (a₁ := ix3 ⟨t.val / 4, by omega⟩ (rowAt t p) q) ?_)
  funext a
  apply Fin.ext
  match a with
  | ⟨0, _⟩ => show t.val / 4 = win0_2.index t 0 * 1 + 1 * z.val; rw [(idx0 t).2.2, hz]; simp
  | ⟨1, _⟩ => show t.val % 4 * 512 + p.val = win0_2.index t 1 * 512 + 1 * p.val; rw [(idx0 t).2.2]; simp
  | ⟨2, _⟩ => show q.val = win0_2.index t 2 * 1408 + 1 * q.val; rw [(idx0 t).2.2]; simp

/-! ### The second call: the up projection's blocks, and two AdamW steps beside -/

/-- Which block each window shows at each grid point. -/
theorem idx1 : ∀ t : Fin grid1.N, win1_0.index t = ![t.val % 4, 0] ∧ win1_1.index t = ![0, t.val / 4] ∧ win1_2.index t = ![t.val, 0] ∧ win1_3.index t = ![t.val, 0]
    ∧ win1_4.index t = ![t.val, 0] ∧ win1_5.index t = ![t.val, 0] ∧ win1_6.index t = ![0, t.val, 0] ∧ win1_7.index t = ![t.val, 0]
    ∧ win1_8.index t = ![t.val, 0] ∧ win1_9.index t = ![t.val, 0] ∧ win1_10.index t = ![t.val, 0] ∧ win1_11.index t = ![0, t.val, 0]
    ∧ win1_12.index t = ![t.val / 4 + 4, t.val % 4, 0] ∧ win1_13.index t = ![t.val, 0] ∧ win1_14.index t = ![t.val, 0] ∧ win1_15.index t = ![t.val, 0]
    ∧ win1_16.index t = ![t.val, 0] ∧ win1_17.index t = ![t.val, 0] ∧ win1_18.index t = ![t.val, 0] ∧ win1_19.index t = ![t.val, 0]
    ∧ win1_20.index t = ![t.val, 0] := by decide +kernel

/-- The transposed activations the second call reads. -/
theorem V3_x (c : Dev nD) : @Eq (S2048x4096.Idx → EReal) (V3 m ρ c main_v1) fun i => x m c (ix2 (i 1) (i 0)) :=
  ((W3_of m ρ c main_v1 (by decide)).trans (W2_of m ρ c main_v1 (by decide))).trans (V1_x m ρ c)

/-- The up projection's gradients the second call reads. -/
theorem V3_du (c : Dev nD) : @Eq (S4096x5632.Idx → EReal) (V3 m ρ c main_v6) fun i =>
    dgu m c (ix2 (i 0) ⟨5632 + (i 1).val, by have h : (i 1).val < 5632 := (i 1).isLt; omega⟩) := by
  unfold V3 W3
  funext i
  entry_read
  pointwise
  rw [W2_args m ρ c main_arg1 (by decide)]

/-- The array the second call writes over holds what the first call left. -/
theorem V3_p (c : Dev nD) : V3 m ρ c main_v7_0 = (dat0 (V1 m ρ) c).arrAt 2 cfg0.N := by
  unfold V3 W3
  entry_read
  exact W2_arr m ρ c 2

/-- What the window shows of its array, entry by entry. -/
theorem block1_x (c : Dev nD) (t : Fin grid1.N) (p : Fin 512) (k : Fin 4096) :
    @Eq EReal (iblk1 (V3 m ρ) c 0 t (ix2 p k)) (x m c (ix2 k (rowAt t p))) := by
  refine Eq.trans (b := V3 m ρ c main_v1 (ix2 (rowAt t p) k)) ?_ (congrFun (V3_x m ρ c) _)
  blk_point [iblk1, (idx1 t).1]

/-- What the window shows of its array, entry by entry. -/
theorem block1_du (c : Dev nD) (t : Fin grid1.N) (k : Fin 4096) (q : Fin 1408) :
    @Eq EReal (iblk1 (V3 m ρ) c 1 t (ix2 k q)) (dgu m c (ix2 k ⟨5632 + (colAt t q).val, by omega⟩)) := by
  refine Eq.trans (b := V3 m ρ c main_v6 (ix2 k (colAt t q))) ?_ (congrFun (V3_du m ρ c) _)
  blk_point [iblk1, (idx1 t).2.1]

/-- Every point of the second call stores its block of the product. -/
theorem stored1 (c : Dev nD) (t : Fin cfg1.N) (z : Fin 1) (p : Fin 512) (q : Fin 1408) :
    @Eq EReal ((outsAt1 (V3 m ρ) c t).1 (ix3 z p q))
      (∑ k : Fin 4096, x m c (ix2 k (rowAt t p)) * dgu m c (ix2 k ⟨5632 + (colAt t q).val, by omega⟩)) := by
  unfold outsAt1
  frame_out
  unfold_payloads
  pointwise
  simp only [block1_x, block1_du]

/-- After the second call the array holds all eight blocks. -/
theorem final_dw (c : Dev nD) : (dat1 (V3 m ρ) c).arrAt 12 cfg1.N = G m c := by
  refine (dat1 (V3 m ρ) c).arrAt_eq_of_coversWhere_of_agree 12 (G m c) (fun β => 4 ≤ β (0 : Fin 3)) (by decide +kernel) (fun t hf y => ?_) (fun j hj => ?_)
  · obtain ⟨z, p, q, rfl⟩ : ∃ (z : Fin 1) (p : Fin 512) (q : Fin 1408), y = ix3 z p q := ⟨y 0, y 1, y 2, eq_ix3 y⟩
    have ht : t.val < 16 := t.isLt
    have hz : z.val = 0 := by omega
    have e : ∀ q : Fin 1408, 5632 + (t.val / 4 * 1408 + q.val) = (t.val / 4 + 4) * 1408 + q.val := fun q => by omega
    blk_simp
    rw [after1_12]
    refine (stored1 m ρ c t z p q).trans (Eq.trans (b := G m c (ix3 ⟨t.val / 4 + 4, by omega⟩ (rowAt t p) q)) ?_ (congrArg (G m c) ?_))
    · unfold G
      simp only [colAt, e]
      rfl
    · funext a
      apply Fin.ext
      match a with
      | ⟨0, _⟩ => show t.val / 4 + 4 = win1_12.index t 0 * 1 + 1 * z.val; rw [(idx1 t).2.2.2.2.2.2.2.2.2.2.2.2.1, hz]; simp
      | ⟨1, _⟩ => show t.val % 4 * 512 + p.val = win1_12.index t 1 * 512 + 1 * p.val; rw [(idx1 t).2.2.2.2.2.2.2.2.2.2.2.2.1]; simp
      | ⟨2, _⟩ => show q.val = win1_12.index t 2 * 1408 + 1 * q.val; rw [(idx1 t).2.2.2.2.2.2.2.2.2.2.2.2.1]; simp
  · blk_simp [Pipeline.Window.cell_apply] at hj
    rw [A_eq1]
    refine (congrFun ((V3_p m ρ c).trans (final0 m ρ c)) _).trans (if_pos ?_)
    show (j 0).val < 4
    omega

end Cert.Kernel4Ideal.DwGateUp

end
-- ==== Proof.DwGateUpIn.lean ====
module

public import proofs.«01_k».proof.Proof.DwGateUpValue
public import proofs.«01_k».proof.Proof.Gen.Reference4Ideal.Read
public import proofs.«01_k».proof.Proof.Adam
public import Idealize.ShloMosaic.Lib.Pipeline.ValueKit.Partial
public import proofs.«01_k».proof.Defs
public import Idealize.ShloMosaic.Lib.Pipeline.ValueKit
public import Idealize.ShloMosaic.Lib.Pointwise

@[expose] public section

set_option maxRecDepth 16384

noncomputable section

namespace Cert.Kernel4Ideal.DwGateUp

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

namespace In

/-- The mixer's first projection's weights this chip updates. -/
abbrev w (c : Dev nD) : S2048x512.Idx → EReal := m ((c : Thread nD τ).loc main_arg2)
/-- The running mean of their gradients. -/
abbrev mu (c : Dev nD) : S2048x512.Idx → EReal := m ((c : Thread nD τ).loc main_arg3)
/-- The running mean of their squared gradients. -/
abbrev nu (c : Dev nD) : S2048x512.Idx → EReal := m ((c : Thread nD τ).loc main_arg4)
/-- The own chip's part of their gradient. -/
abbrev own (c : Dev nD) : S2048x512.Idx → EReal := m ((c : Thread nD τ).loc main_arg5)
/-- The other chips' parts of their gradient. -/
abbrev got (c : Dev nD) : S3x2048x512.Idx → EReal := m ((c : Thread nD τ).loc main_arg6)

/-- The gradient: the sum of the four chips' parts. -/
def grad (c : Dev nD) : S2048x512.Idx → EReal := fun i =>
  own m c i + got m c (ix3 0 (i 0) (i 1)) + got m c (ix3 1 (i 0) (i 1)) + got m c (ix3 2 (i 0) (i 1))
/-- The running mean after this step. -/
def mean (c : Dev nD) : S2048x512.Idx → EReal := fun i => Adam.mean (grad m c i) (mu m c i)
/-- The running mean of squares after this step. -/
def square (c : Dev nD) : S2048x512.Idx → EReal := fun i => Adam.square (grad m c i) (nu m c i)
/-- How far the weights move. -/
def move (c : Dev nD) : S2048x512.Idx → EReal := fun i => Adam.move (w m c i) (grad m c i) (mu m c i) (nu m c i)

/-- The array's row that row `p` of point `t`'s block is. -/
abbrev sideAt (t : Fin 16) (p : Fin 128) : Fin 2048 := ⟨t.val * 128 + p.val, by have := t.isLt; have := p.isLt; omega⟩

/-- What the window shows of its array, entry by entry. -/
theorem block_w (c : Dev nD) (t : Fin grid1.N) (p : Fin 128) (q : Fin 512) :
    @Eq EReal (iblk1 (V3 m ρ) c 2 t (ix2 p q)) (w m c (ix2 (sideAt t p) q)) := by
  refine Eq.trans (b := V3 m ρ c main_arg2 (ix2 (sideAt t p) q)) ?_ (congrFun (W3_args m ρ c main_arg2 (by decide)) _)
  blk_point [iblk1, (idx1 t).2.2.1]

/-- What the window shows of its array, entry by entry. -/
theorem block_mu (c : Dev nD) (t : Fin grid1.N) (p : Fin 128) (q : Fin 512) :
    @Eq EReal (iblk1 (V3 m ρ) c 3 t (ix2 p q)) (mu m c (ix2 (sideAt t p) q)) := by
  refine Eq.trans (b := V3 m ρ c main_arg3 (ix2 (sideAt t p) q)) ?_ (congrFun (W3_args m ρ c main_arg3 (by decide)) _)
  blk_point [iblk1, (idx1 t).2.2.2.1]

/-- What the window shows of its array, entry by entry. -/
theorem block_nu (c : Dev nD) (t : Fin grid1.N) (p : Fin 128) (q : Fin 512) :
    @Eq EReal (iblk1 (V3 m ρ) c 4 t (ix2 p q)) (nu m c (ix2 (sideAt t p) q)) := by
  refine Eq.trans (b := V3 m ρ c main_arg4 (ix2 (sideAt t p) q)) ?_ (congrFun (W3_args m ρ c main_arg4 (by decide)) _)
  blk_point [iblk1, (idx1 t).2.2.2.2.1]

/-- What the window shows of its array, entry by entry. -/
theorem block_own (c : Dev nD) (t : Fin grid1.N) (p : Fin 128) (q : Fin 512) :
    @Eq EReal (iblk1 (V3 m ρ) c 5 t (ix2 p q)) (own m c (ix2 (sideAt t p) q)) := by
  refine Eq.trans (b := V3 m ρ c main_arg5 (ix2 (sideAt t p) q)) ?_ (congrFun (W3_args m ρ c main_arg5 (by decide)) _)
  blk_point [iblk1, (idx1 t).2.2.2.2.2.1]

/-- What the window shows of its array, entry by entry. -/
theorem block_got (c : Dev nD) (t : Fin grid1.N) (z : Fin 3) (p : Fin 128) (q : Fin 512) :
    @Eq EReal (iblk1 (V3 m ρ) c 6 t (ix3 z p q)) (got m c (ix3 z (sideAt t p) q)) := by
  refine Eq.trans (b := V3 m ρ c main_arg6 (ix3 z (sideAt t p) q)) ?_ (congrFun (W3_args m ρ c main_arg6 (by decide)) _)
  blk_point [iblk1, (idx1 t).2.2.2.2.2.2.1]

/-- The row of the side's array that a row of an output block is. -/
theorem side_index (t : Fin 16) (p : Fin 128) (q : Fin 512) (A : S2048x512.Idx → EReal) (e0 e1 : ℕ) (h0 : e0 = t.val) (h1 : e1 = 0)
    (i : S2048x512.Idx) (hi0 : (i 0).val = e0 * 128 + 1 * p.val) (hi1 : (i 1).val = e1 * 512 + 1 * q.val) : A (ix2 (sideAt t p) q) = A i := by
  refine congrArg A ?_
  funext a
  apply Fin.ext
  match a with
  | ⟨0, _⟩ => show t.val * 128 + p.val = (i 0).val; rw [hi0, h0, one_mul]
  | ⟨1, _⟩ => show q.val = (i 1).val; rw [hi1, h1]; simp

/-- What the body stores at a grid point, entry by entry. -/
theorem stored_grad (c : Dev nD) (t : Fin cfg1.N) (p : Fin 128) (q : Fin 512) :
    @Eq EReal ((outsAt1 (V3 m ρ) c t).2.1 (ix2 p q)) (grad m c (ix2 (sideAt t p) q)) := by
  unfold outsAt1
  frame_out
  unfold_payloads
  pointwise
  simp only [block_w, block_mu, block_nu, block_own, block_got]
  rfl

/-- What the whole output array holds at the end. -/
theorem final_grad (c : Dev nD) : (dat1 (V3 m ρ) c).arrAt 13 cfg1.N = grad m c := by
  refine (dat1 (V3 m ρ) c).arrAt_eq_of_covers 13 _ (by decide +kernel) fun t hf y => ?_
  obtain ⟨p, q, rfl⟩ : ∃ (p : Fin 128) (q : Fin 512), y = ix2 p q := ⟨y 0, y 1, eq_ix2 y⟩
  blk_simp
  rw [after1_13]
  exact (stored_grad m ρ c t p q).trans (side_index t p q _ _ _ (congrFun (idx1 t).2.2.2.2.2.2.2.2.2.2.2.2.2.1 0) (congrFun (idx1 t).2.2.2.2.2.2.2.2.2.2.2.2.2.1 1) _ rfl rfl)

/-- What the body stores at a grid point, entry by entry. -/
theorem stored_move (c : Dev nD) (t : Fin cfg1.N) (p : Fin 128) (q : Fin 512) :
    @Eq EReal ((outsAt1 (V3 m ρ) c t).2.2.1 (ix2 p q)) (move m c (ix2 (sideAt t p) q)) := by
  unfold outsAt1
  frame_out
  unfold_payloads
  pointwise
  simp only [block_w, block_mu, block_nu, block_own, block_got]
  rfl

/-- What the whole output array holds at the end. -/
theorem final_move (c : Dev nD) : (dat1 (V3 m ρ) c).arrAt 14 cfg1.N = move m c := by
  refine (dat1 (V3 m ρ) c).arrAt_eq_of_covers 14 _ (by decide +kernel) fun t hf y => ?_
  obtain ⟨p, q, rfl⟩ : ∃ (p : Fin 128) (q : Fin 512), y = ix2 p q := ⟨y 0, y 1, eq_ix2 y⟩
  blk_simp
  rw [after1_14]
  exact (stored_move m ρ c t p q).trans (side_index t p q _ _ _ (congrFun (idx1 t).2.2.2.2.2.2.2.2.2.2.2.2.2.2.1 0) (congrFun (idx1 t).2.2.2.2.2.2.2.2.2.2.2.2.2.2.1 1) _ rfl rfl)

/-- What the body stores at a grid point, entry by entry. -/
theorem stored_mean (c : Dev nD) (t : Fin cfg1.N) (p : Fin 128) (q : Fin 512) :
    @Eq EReal ((outsAt1 (V3 m ρ) c t).2.2.2.1 (ix2 p q)) (mean m c (ix2 (sideAt t p) q)) := by
  unfold outsAt1
  frame_out
  unfold_payloads
  pointwise
  simp only [block_w, block_mu, block_nu, block_own, block_got]
  rfl

/-- What the whole output array holds at the end. -/
theorem final_mean (c : Dev nD) : (dat1 (V3 m ρ) c).arrAt 15 cfg1.N = mean m c := by
  refine (dat1 (V3 m ρ) c).arrAt_eq_of_covers 15 _ (by decide +kernel) fun t hf y => ?_
  obtain ⟨p, q, rfl⟩ : ∃ (p : Fin 128) (q : Fin 512), y = ix2 p q := ⟨y 0, y 1, eq_ix2 y⟩
  blk_simp
  rw [after1_15]
  exact (stored_mean m ρ c t p q).trans (side_index t p q _ _ _ (congrFun (idx1 t).2.2.2.2.2.2.2.2.2.2.2.2.2.2.2.1 0) (congrFun (idx1 t).2.2.2.2.2.2.2.2.2.2.2.2.2.2.2.1 1) _ rfl rfl)

/-- What the body stores at a grid point, entry by entry. -/
theorem stored_square (c : Dev nD) (t : Fin cfg1.N) (p : Fin 128) (q : Fin 512) :
    @Eq EReal ((outsAt1 (V3 m ρ) c t).2.2.2.2.1 (ix2 p q)) (square m c (ix2 (sideAt t p) q)) := by
  unfold outsAt1
  frame_out
  unfold_payloads
  pointwise
  simp only [block_w, block_mu, block_nu, block_own, block_got]
  rfl

/-- What the whole output array holds at the end. -/
theorem final_square (c : Dev nD) : (dat1 (V3 m ρ) c).arrAt 16 cfg1.N = square m c := by
  refine (dat1 (V3 m ρ) c).arrAt_eq_of_covers 16 _ (by decide +kernel) fun t hf y => ?_
  obtain ⟨p, q, rfl⟩ : ∃ (p : Fin 128) (q : Fin 512), y = ix2 p q := ⟨y 0, y 1, eq_ix2 y⟩
  blk_simp
  rw [after1_16]
  exact (stored_square m ρ c t p q).trans (side_index t p q _ _ _ (congrFun (idx1 t).2.2.2.2.2.2.2.2.2.2.2.2.2.2.2.2.1 0) (congrFun (idx1 t).2.2.2.2.2.2.2.2.2.2.2.2.2.2.2.2.1 1) _ rfl rfl)

/-- The reference computes the same function. -/
theorem ref_grad (c : Dev nD) : Cert.Reference4Ideal.Read.val_main_v10 (F := Ideal) (own m c) (got m c) = grad m c := by
  funext i
  pointwise [Cert.Reference4Ideal.Read.val_main_v10, Cert.Reference4Ideal.Read.val_main_v9, Cert.Reference4Ideal.Read.val_main_v8, Cert.Reference4Ideal.Read.val_main_v7, Cert.Reference4Ideal.Read.val_main_cst_0]
  unfold grad
  rw [Fin.sum_univ_three]
  simp only [add_assoc]

/-- The reference computes the same function. -/
theorem ref_mean (c : Dev nD) : Cert.Reference4Ideal.Read.val_main_v15 (F := Ideal) (mu m c) (own m c) (got m c) = mean m c := by
  funext i
  pointwise [Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_cst_1, Cert.Reference4Ideal.Read.val_main_cst_2]
  rw [ref_grad]
  rfl

/-- The reference computes the same function. -/
theorem ref_square (c : Dev nD) : Cert.Reference4Ideal.Read.val_main_v21 (F := Ideal) (nu m c) (own m c) (got m c) = square m c := by
  funext i
  pointwise [Cert.Reference4Ideal.Read.val_main_v21, Cert.Reference4Ideal.Read.val_main_v20, Cert.Reference4Ideal.Read.val_main_v19, Cert.Reference4Ideal.Read.val_main_v18, Cert.Reference4Ideal.Read.val_main_v17, Cert.Reference4Ideal.Read.val_main_v16, Cert.Reference4Ideal.Read.val_main_cst_3, Cert.Reference4Ideal.Read.val_main_cst_4]
  rw [ref_grad]
  rfl

/-- The reference computes the same function. -/
theorem ref_move (c : Dev nD) : Cert.Reference4Ideal.Read.val_main_v34 (F := Ideal) (w m c) (mu m c) (nu m c) (own m c) (got m c) = move m c := by
  funext i
  pointwise [Cert.Reference4Ideal.Read.val_main_v34, Cert.Reference4Ideal.Read.val_main_v33, Cert.Reference4Ideal.Read.val_main_v32, Cert.Reference4Ideal.Read.val_main_v31, Cert.Reference4Ideal.Read.val_main_v30, Cert.Reference4Ideal.Read.val_main_v29, Cert.Reference4Ideal.Read.val_main_v28, Cert.Reference4Ideal.Read.val_main_v27, Cert.Reference4Ideal.Read.val_main_v26, Cert.Reference4Ideal.Read.val_main_v25, Cert.Reference4Ideal.Read.val_main_v24, Cert.Reference4Ideal.Read.val_main_v23, Cert.Reference4Ideal.Read.val_main_v22, Cert.Reference4Ideal.Read.val_main_cst_5, Cert.Reference4Ideal.Read.val_main_cst_6, Cert.Reference4Ideal.Read.val_main_cst_7, Cert.Reference4Ideal.Read.val_main_cst_8, Cert.Reference4Ideal.Read.val_main_cst_9]
  rw [ref_mean, ref_square]
  rfl

end In

end Cert.Kernel4Ideal.DwGateUp

end
-- ==== Proof.DwGateUpOut.lean ====
module

public import proofs.«01_k».proof.Proof.DwGateUpValue
public import proofs.«01_k».proof.Proof.Gen.Reference4Ideal.Read
public import proofs.«01_k».proof.Proof.Adam
public import Idealize.ShloMosaic.Lib.Pipeline.ValueKit.Partial
public import proofs.«01_k».proof.Defs
public import Idealize.ShloMosaic.Lib.Pipeline.ValueKit
public import Idealize.ShloMosaic.Lib.Pointwise

@[expose] public section

set_option maxRecDepth 16384

noncomputable section

namespace Cert.Kernel4Ideal.DwGateUp

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

namespace Out

/-- The mixer's last projection's weights this chip updates. -/
abbrev w (c : Dev nD) : S256x2048.Idx → EReal := m ((c : Thread nD τ).loc main_arg7)
/-- The running mean of their gradients. -/
abbrev mu (c : Dev nD) : S256x2048.Idx → EReal := m ((c : Thread nD τ).loc main_arg8)
/-- The running mean of their squared gradients. -/
abbrev nu (c : Dev nD) : S256x2048.Idx → EReal := m ((c : Thread nD τ).loc main_arg9)
/-- The own chip's part of their gradient. -/
abbrev own (c : Dev nD) : S256x2048.Idx → EReal := m ((c : Thread nD τ).loc main_arg10)
/-- The other chips' parts of their gradient. -/
abbrev got (c : Dev nD) : S3x256x2048.Idx → EReal := m ((c : Thread nD τ).loc main_arg11)

/-- The gradient: the sum of the four chips' parts. -/
def grad (c : Dev nD) : S256x2048.Idx → EReal := fun i =>
  own m c i + got m c (ix3 0 (i 0) (i 1)) + got m c (ix3 1 (i 0) (i 1)) + got m c (ix3 2 (i 0) (i 1))
/-- The running mean after this step. -/
def mean (c : Dev nD) : S256x2048.Idx → EReal := fun i => Adam.mean (grad m c i) (mu m c i)
/-- The running mean of squares after this step. -/
def square (c : Dev nD) : S256x2048.Idx → EReal := fun i => Adam.square (grad m c i) (nu m c i)
/-- How far the weights move. -/
def move (c : Dev nD) : S256x2048.Idx → EReal := fun i => Adam.move (w m c i) (grad m c i) (mu m c i) (nu m c i)

/-- The array's row that row `p` of point `t`'s block is. -/
abbrev sideAt (t : Fin 16) (p : Fin 16) : Fin 256 := ⟨t.val * 16 + p.val, by have := t.isLt; have := p.isLt; omega⟩

/-- What the window shows of its array, entry by entry. -/
theorem block_w (c : Dev nD) (t : Fin grid1.N) (p : Fin 16) (q : Fin 2048) :
    @Eq EReal (iblk1 (V3 m ρ) c 7 t (ix2 p q)) (w m c (ix2 (sideAt t p) q)) := by
  refine Eq.trans (b := V3 m ρ c main_arg7 (ix2 (sideAt t p) q)) ?_ (congrFun (W3_args m ρ c main_arg7 (by decide)) _)
  blk_point [iblk1, (idx1 t).2.2.2.2.2.2.2.1]

/-- What the window shows of its array, entry by entry. -/
theorem block_mu (c : Dev nD) (t : Fin grid1.N) (p : Fin 16) (q : Fin 2048) :
    @Eq EReal (iblk1 (V3 m ρ) c 8 t (ix2 p q)) (mu m c (ix2 (sideAt t p) q)) := by
  refine Eq.trans (b := V3 m ρ c main_arg8 (ix2 (sideAt t p) q)) ?_ (congrFun (W3_args m ρ c main_arg8 (by decide)) _)
  blk_point [iblk1, (idx1 t).2.2.2.2.2.2.2.2.1]

/-- What the window shows of its array, entry by entry. -/
theorem block_nu (c : Dev nD) (t : Fin grid1.N) (p : Fin 16) (q : Fin 2048) :
    @Eq EReal (iblk1 (V3 m ρ) c 9 t (ix2 p q)) (nu m c (ix2 (sideAt t p) q)) := by
  refine Eq.trans (b := V3 m ρ c main_arg9 (ix2 (sideAt t p) q)) ?_ (congrFun (W3_args m ρ c main_arg9 (by decide)) _)
  blk_point [iblk1, (idx1 t).2.2.2.2.2.2.2.2.2.1]

/-- What the window shows of its array, entry by entry. -/
theorem block_own (c : Dev nD) (t : Fin grid1.N) (p : Fin 16) (q : Fin 2048) :
    @Eq EReal (iblk1 (V3 m ρ) c 10 t (ix2 p q)) (own m c (ix2 (sideAt t p) q)) := by
  refine Eq.trans (b := V3 m ρ c main_arg10 (ix2 (sideAt t p) q)) ?_ (congrFun (W3_args m ρ c main_arg10 (by decide)) _)
  blk_point [iblk1, (idx1 t).2.2.2.2.2.2.2.2.2.2.1]

/-- What the window shows of its array, entry by entry. -/
theorem block_got (c : Dev nD) (t : Fin grid1.N) (z : Fin 3) (p : Fin 16) (q : Fin 2048) :
    @Eq EReal (iblk1 (V3 m ρ) c 11 t (ix3 z p q)) (got m c (ix3 z (sideAt t p) q)) := by
  refine Eq.trans (b := V3 m ρ c main_arg11 (ix3 z (sideAt t p) q)) ?_ (congrFun (W3_args m ρ c main_arg11 (by decide)) _)
  blk_point [iblk1, (idx1 t).2.2.2.2.2.2.2.2.2.2.2.1]

/-- The row of the side's array that a row of an output block is. -/
theorem side_index (t : Fin 16) (p : Fin 16) (q : Fin 2048) (A : S256x2048.Idx → EReal) (e0 e1 : ℕ) (h0 : e0 = t.val) (h1 : e1 = 0)
    (i : S256x2048.Idx) (hi0 : (i 0).val = e0 * 16 + 1 * p.val) (hi1 : (i 1).val = e1 * 2048 + 1 * q.val) : A (ix2 (sideAt t p) q) = A i := by
  refine congrArg A ?_
  funext a
  apply Fin.ext
  match a with
  | ⟨0, _⟩ => show t.val * 16 + p.val = (i 0).val; rw [hi0, h0, one_mul]
  | ⟨1, _⟩ => show q.val = (i 1).val; rw [hi1, h1]; simp

/-- What the body stores at a grid point, entry by entry. -/
theorem stored_grad (c : Dev nD) (t : Fin cfg1.N) (p : Fin 16) (q : Fin 2048) :
    @Eq EReal ((outsAt1 (V3 m ρ) c t).2.2.2.2.2.1 (ix2 p q)) (grad m c (ix2 (sideAt t p) q)) := by
  unfold outsAt1
  frame_out
  unfold_payloads
  pointwise
  simp only [block_w, block_mu, block_nu, block_own, block_got]
  rfl

/-- What the whole output array holds at the end. -/
theorem final_grad (c : Dev nD) : (dat1 (V3 m ρ) c).arrAt 17 cfg1.N = grad m c := by
  refine (dat1 (V3 m ρ) c).arrAt_eq_of_covers 17 _ (by decide +kernel) fun t hf y => ?_
  obtain ⟨p, q, rfl⟩ : ∃ (p : Fin 16) (q : Fin 2048), y = ix2 p q := ⟨y 0, y 1, eq_ix2 y⟩
  blk_simp
  rw [after1_17]
  exact (stored_grad m ρ c t p q).trans (side_index t p q _ _ _ (congrFun (idx1 t).2.2.2.2.2.2.2.2.2.2.2.2.2.2.2.2.2.1 0) (congrFun (idx1 t).2.2.2.2.2.2.2.2.2.2.2.2.2.2.2.2.2.1 1) _ rfl rfl)

/-- What the body stores at a grid point, entry by entry. -/
theorem stored_move (c : Dev nD) (t : Fin cfg1.N) (p : Fin 16) (q : Fin 2048) :
    @Eq EReal ((outsAt1 (V3 m ρ) c t).2.2.2.2.2.2.1 (ix2 p q)) (move m c (ix2 (sideAt t p) q)) := by
  unfold outsAt1
  frame_out
  unfold_payloads
  pointwise
  simp only [block_w, block_mu, block_nu, block_own, block_got]
  rfl

/-- What the whole output array holds at the end. -/
theorem final_move (c : Dev nD) : (dat1 (V3 m ρ) c).arrAt 18 cfg1.N = move m c := by
  refine (dat1 (V3 m ρ) c).arrAt_eq_of_covers 18 _ (by decide +kernel) fun t hf y => ?_
  obtain ⟨p, q, rfl⟩ : ∃ (p : Fin 16) (q : Fin 2048), y = ix2 p q := ⟨y 0, y 1, eq_ix2 y⟩
  blk_simp
  rw [after1_18]
  exact (stored_move m ρ c t p q).trans (side_index t p q _ _ _ (congrFun (idx1 t).2.2.2.2.2.2.2.2.2.2.2.2.2.2.2.2.2.2.1 0) (congrFun (idx1 t).2.2.2.2.2.2.2.2.2.2.2.2.2.2.2.2.2.2.1 1) _ rfl rfl)

/-- What the body stores at a grid point, entry by entry. -/
theorem stored_mean (c : Dev nD) (t : Fin cfg1.N) (p : Fin 16) (q : Fin 2048) :
    @Eq EReal ((outsAt1 (V3 m ρ) c t).2.2.2.2.2.2.2.1 (ix2 p q)) (mean m c (ix2 (sideAt t p) q)) := by
  unfold outsAt1
  frame_out
  unfold_payloads
  pointwise
  simp only [block_w, block_mu, block_nu, block_own, block_got]
  rfl

/-- What the whole output array holds at the end. -/
theorem final_mean (c : Dev nD) : (dat1 (V3 m ρ) c).arrAt 19 cfg1.N = mean m c := by
  refine (dat1 (V3 m ρ) c).arrAt_eq_of_covers 19 _ (by decide +kernel) fun t hf y => ?_
  obtain ⟨p, q, rfl⟩ : ∃ (p : Fin 16) (q : Fin 2048), y = ix2 p q := ⟨y 0, y 1, eq_ix2 y⟩
  blk_simp
  rw [after1_19]
  exact (stored_mean m ρ c t p q).trans (side_index t p q _ _ _ (congrFun (idx1 t).2.2.2.2.2.2.2.2.2.2.2.2.2.2.2.2.2.2.2.1 0) (congrFun (idx1 t).2.2.2.2.2.2.2.2.2.2.2.2.2.2.2.2.2.2.2.1 1) _ rfl rfl)

/-- What the body stores at a grid point, entry by entry. -/
theorem stored_square (c : Dev nD) (t : Fin cfg1.N) (p : Fin 16) (q : Fin 2048) :
    @Eq EReal ((outsAt1 (V3 m ρ) c t).2.2.2.2.2.2.2.2 (ix2 p q)) (square m c (ix2 (sideAt t p) q)) := by
  unfold outsAt1
  frame_out
  unfold_payloads
  pointwise
  simp only [block_w, block_mu, block_nu, block_own, block_got]
  rfl

/-- What the whole output array holds at the end. -/
theorem final_square (c : Dev nD) : (dat1 (V3 m ρ) c).arrAt 20 cfg1.N = square m c := by
  refine (dat1 (V3 m ρ) c).arrAt_eq_of_covers 20 _ (by decide +kernel) fun t hf y => ?_
  obtain ⟨p, q, rfl⟩ : ∃ (p : Fin 16) (q : Fin 2048), y = ix2 p q := ⟨y 0, y 1, eq_ix2 y⟩
  blk_simp
  rw [after1_20]
  exact (stored_square m ρ c t p q).trans (side_index t p q _ _ _ (congrFun (idx1 t).2.2.2.2.2.2.2.2.2.2.2.2.2.2.2.2.2.2.2.2 0) (congrFun (idx1 t).2.2.2.2.2.2.2.2.2.2.2.2.2.2.2.2.2.2.2.2 1) _ rfl rfl)

/-- The reference computes the same function. -/
theorem ref_grad (c : Dev nD) : Cert.Reference4Ideal.Read.val_main_v38 (F := Ideal) (own m c) (got m c) = grad m c := by
  funext i
  pointwise [Cert.Reference4Ideal.Read.val_main_v38, Cert.Reference4Ideal.Read.val_main_v37, Cert.Reference4Ideal.Read.val_main_v36, Cert.Reference4Ideal.Read.val_main_v35, Cert.Reference4Ideal.Read.val_main_cst_10]
  unfold grad
  rw [Fin.sum_univ_three]
  simp only [add_assoc]

/-- The reference computes the same function. -/
theorem ref_mean (c : Dev nD) : Cert.Reference4Ideal.Read.val_main_v43 (F := Ideal) (mu m c) (own m c) (got m c) = mean m c := by
  funext i
  pointwise [Cert.Reference4Ideal.Read.val_main_v43, Cert.Reference4Ideal.Read.val_main_v42, Cert.Reference4Ideal.Read.val_main_v41, Cert.Reference4Ideal.Read.val_main_v40, Cert.Reference4Ideal.Read.val_main_v39, Cert.Reference4Ideal.Read.val_main_cst_11, Cert.Reference4Ideal.Read.val_main_cst_12]
  rw [ref_grad]
  rfl

/-- The reference computes the same function. -/
theorem ref_square (c : Dev nD) : Cert.Reference4Ideal.Read.val_main_v49 (F := Ideal) (nu m c) (own m c) (got m c) = square m c := by
  funext i
  pointwise [Cert.Reference4Ideal.Read.val_main_v49, Cert.Reference4Ideal.Read.val_main_v48, Cert.Reference4Ideal.Read.val_main_v47, Cert.Reference4Ideal.Read.val_main_v46, Cert.Reference4Ideal.Read.val_main_v45, Cert.Reference4Ideal.Read.val_main_v44, Cert.Reference4Ideal.Read.val_main_cst_13, Cert.Reference4Ideal.Read.val_main_cst_14]
  rw [ref_grad]
  rfl

/-- The reference computes the same function. -/
theorem ref_move (c : Dev nD) : Cert.Reference4Ideal.Read.val_main_v62 (F := Ideal) (w m c) (mu m c) (nu m c) (own m c) (got m c) = move m c := by
  funext i
  pointwise [Cert.Reference4Ideal.Read.val_main_v62, Cert.Reference4Ideal.Read.val_main_v61, Cert.Reference4Ideal.Read.val_main_v60, Cert.Reference4Ideal.Read.val_main_v59, Cert.Reference4Ideal.Read.val_main_v58, Cert.Reference4Ideal.Read.val_main_v57, Cert.Reference4Ideal.Read.val_main_v56, Cert.Reference4Ideal.Read.val_main_v55, Cert.Reference4Ideal.Read.val_main_v54, Cert.Reference4Ideal.Read.val_main_v53, Cert.Reference4Ideal.Read.val_main_v52, Cert.Reference4Ideal.Read.val_main_v51, Cert.Reference4Ideal.Read.val_main_v50, Cert.Reference4Ideal.Read.val_main_cst_15, Cert.Reference4Ideal.Read.val_main_cst_16, Cert.Reference4Ideal.Read.val_main_cst_17, Cert.Reference4Ideal.Read.val_main_cst_18, Cert.Reference4Ideal.Read.val_main_cst_19]
  rw [ref_mean, ref_square]
  rfl

end Out

end Cert.Kernel4Ideal.DwGateUp

end
-- ==== Proof.DwGateUp.lean ====
module

public import proofs.«01_k».proof.Proof.DwGateUpRun
public import proofs.«01_k».proof.Proof.DwGateUpIn
public import proofs.«01_k».proof.Proof.DwGateUpOut
public import proofs.«01_k».proof.Proof.Gen.Reference4Ideal.Run
public import proofs.«01_k».proof.Proof.Gen.Reference4Ideal.Read
public import proofs.«01_k».proof.Proof.Adam
public import Idealize.ShloMosaic.Lib.Pipeline.ValueKit.Partial
public import proofs.«01_k».proof.Defs
public import Idealize.ShloMosaic.Lib.Pipeline.ValueKit
public import Idealize.ShloMosaic.Lib.Pointwise

@[expose] public section

set_option maxRecDepth 16384

noncomputable section

namespace Cert.Kernel4Ideal.DwGateUp

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

/-- The reference computes the same function. -/
theorem ref (c : Dev nD) : Cert.Reference4Ideal.Read.val_main_v6 (F := Ideal) (x m c) (dgu m c) = G m c := by
  funext i
  pointwise [Cert.Reference4Ideal.Read.val_main_v6, Cert.Reference4Ideal.Read.val_main_v5, Cert.Reference4Ideal.Read.val_main_v4, Cert.Reference4Ideal.Read.val_main_v3, Cert.Reference4Ideal.Read.val_main_v2]
  unfold G
  exact Finset.sum_congr rfl fun k _ => mul_comm _ _

end Cert.Kernel4Ideal.DwGateUp

open Cert.Kernel4Ideal.DwGateUp Idealize.ShloMosaic Idealize.SL.Sem in
/-- The kernels and the reference leave the same nine arrays. -/
theorem Cert.Kernel4Ideal.DwGateUp.algebraic : Cert.algebraic_Kernel4Ideal_Reference4Ideal := by
  intro m g m' g' _ h
  refine ⟨fun c => G m c, fun c => In.grad m c, fun c => In.move m c, fun c => In.mean m c, fun c => In.square m c,
    fun c => Out.grad m c, fun c => Out.move m c, fun c => Out.mean m c, fun c => Out.square m c,
    (θ_run _ _ _).mono (fun r hr c => ?_) (Cert.Kernel4Ideal.DwGateUp.run_blocks m g),
    (θ_run _ _ _).mono (fun r hr c => ?_) (Cert.Reference4Ideal.Value.run m' g')⟩
  · obtain ⟨hp, a0, a1, a2, a3, b0, b1, b2, b3, hk⟩ := hr c
    exact ⟨hp.trans (final_dw m g c), a0.trans (In.final_grad m g c), a1.trans (In.final_move m g c), a2.trans (In.final_mean m g c),
      a3.trans (In.final_square m g c), b0.trans (Out.final_grad m g c), b1.trans (Out.final_move m g c), b2.trans (Out.final_mean m g c),
      b3.trans (Out.final_square m g c), hk⟩
  · obtain ⟨hp, a0, a1, a2, a3, b0, b1, b2, b3, hk⟩ := hr c
    obtain ⟨e0, e1, e2, e3, e4, e5, e6, e7, e8, e9, e10, e11⟩ := h c
    refine ⟨hp.trans ?_, a0.trans ?_, a1.trans ?_, a2.trans ?_, a3.trans ?_, b0.trans ?_, b1.trans ?_, b2.trans ?_, b3.trans ?_, hk⟩ <;>
      simp only [e0, e1, e2, e3, e4, e5, e6, e7, e8, e9, e10, e11]
    · exact ref m c
    · exact In.ref_grad m c
    · exact In.ref_move m c
    · exact In.ref_mean m c
    · exact In.ref_square m c
    · exact Out.ref_grad m c
    · exact Out.ref_move m c
    · exact Out.ref_mean m c
    · exact Out.ref_square m c

end
-- ==== Proof.FfnBwdAct.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite5
public import proofs.«01_k».proof.Proof.Reals
public import proofs.«01_k».proof.Defs
public import Idealize.ShloMosaic.Lib.Pipeline.ValueKit
public import Idealize.ShloMosaic.Lib.Pointwise

@[expose] public section

set_option maxRecDepth 16384

noncomputable section

namespace Cert.Kernel5Ideal.FfnAct

open Cert.Kernel5Ideal Cert.Kernel5Ideal.Gen Idealize.ShloMosaic Idealize.ShloMosaic.TcCoe Idealize.SL.Sem

variable (m : (ℓ : Loc nD τ sig) → Buf (Elt Ideal) ℓ)

/-- The gate's and the up projection's results, side by side. -/
abbrev gu (c : Dev nD) : S4096x11264.Idx → EReal := m ((c : Thread nD τ).loc main_arg0)
/-- The down projection's weights. -/
abbrev wd (c : Dev nD) : S5632x2048.Idx → EReal := m ((c : Thread nD τ).loc main_arg1)
/-- The gradient of the block's result before its norm. -/
abbrev dz (c : Dev nD) : S4096x2048.Idx → EReal := m ((c : Thread nD τ).loc main_arg2)

/-- A gate's entry. -/
def gate (c : Dev nD) (p : Fin 4096) (q : Fin 5632) : EReal := gu m c (ix2 p ⟨q.val, by omega⟩)
/-- An up projection's entry. -/
def up (c : Dev nD) (p : Fin 4096) (q : Fin 5632) : EReal := gu m c (ix2 p ⟨5632 + q.val, by omega⟩)
/-- The gradient of the gated product. -/
def dh (c : Dev nD) (p : Fin 4096) (q : Fin 5632) : EReal :=
  ∑ k : Fin 2048, Ideal.ofBits .f32 0x3F000000#32 * dz m c (ix2 p k) * wd m c (ix2 q k)
/-- The gradient of the gate's entries, as the kernel writes it. -/
def dg (c : Dev nD) : S4096x5632.Idx → EReal := fun i =>
  dh m c (i 0) (i 1) * up m c (i 0) (i 1) * (Act.sig (gate m c (i 0) (i 1)) * (1 + gate m c (i 0) (i 1) * (1 - Act.sig (gate m c (i 0) (i 1)))))
/-- The gradient of the up projection's entries. -/
def du (c : Dev nD) : S4096x5632.Idx → EReal := fun i =>
  dh m c (i 0) (i 1) * (gate m c (i 0) (i 1) * Act.sig (gate m c (i 0) (i 1)))

/-- Which block each window shows at each grid point. -/
theorem idx : ∀ t : Fin grid0.N, win0_0.index t = ![t.val / 11, 0] ∧ win0_1.index t = ![t.val / 11, t.val % 11]
    ∧ win0_2.index t = ![t.val / 11, t.val % 11 + 11] ∧ win0_3.index t = ![t.val % 11, 0] ∧ win0_4.index t = ![t.val / 11, t.val % 11]
    ∧ win0_5.index t = ![t.val / 11, t.val % 11] := by decide +kernel

/-- The halved gradient the kernel reads. -/
theorem V_half (c : Dev nD) : @Eq (S4096x2048.Idx → EReal) (V m c main_v2) fun i => Ideal.ofBits .f32 0x3F000000#32 * dz m c i := by
  funext i
  entry_read
  pointwise

/-- What the whole output array holds at the end. -/
theorem final_du (c : Dev nD) : (dats m 0 c).arrAt 5 cfg0.N = du m c := by
  refine (dats m 0 c).arrAt_eq_of_covers 5 _ (by decide +kernel) fun t hf y => ?_
  blk_simp
  rw [after0_5]
  frame_out
  unfold_payloads
  pointwise
  unfold du dh gate gu dz wd
  change @Eq EReal _ _
  rw [Act.sig_of_sub]
  blk_point [iblk, V, (idx t).1, (idx t).2.1, (idx t).2.2.1, (idx t).2.2.2.1, (idx t).2.2.2.2.1, (idx t).2.2.2.2.2]
  rw [V_half]
  unfold dz
  beta_reduce
  blk_point [(idx t).1, (idx t).2.1, (idx t).2.2.1, (idx t).2.2.2.1, (idx t).2.2.2.2.1, (idx t).2.2.2.2.2]

/-- What the whole output array holds at the end. -/
theorem final_dg (c : Dev nD) : (dats m 0 c).arrAt 4 cfg0.N = dg m c := by
  refine (dats m 0 c).arrAt_eq_of_covers 4 _ (by decide +kernel) fun t hf y => ?_
  blk_simp
  rw [after0_4]
  frame_out
  unfold_payloads
  pointwise
  unfold dg dh gate up gu dz wd
  change @Eq EReal _ _
  rw [Act.sig_of_sub]
  blk_point [iblk, V, (idx t).1, (idx t).2.1, (idx t).2.2.1, (idx t).2.2.2.1, (idx t).2.2.2.2.1, (idx t).2.2.2.2.2]
  rw [V_half]
  unfold dz
  beta_reduce
  blk_point [(idx t).1, (idx t).2.1, (idx t).2.2.1, (idx t).2.2.2.1, (idx t).2.2.2.2.1, (idx t).2.2.2.2.2]

/-- What the precondition says: the three arrays hold real numbers. -/
theorem reals (h : Cert.Pre_Kernel5Ideal_finite5 (hPre_finite5 := Cert.Pre_finite5.Gen.facts) m) (c : Dev nD) :
    (∀ i, Reals.IsReal (gu m c i)) ∧ (∀ i, Reals.IsReal (wd m c i)) ∧ (∀ i, Reals.IsReal (dz m c i)) := by
  have e := congrFun (h c) (fun a => Fin.elim0 a)
  dsimp only [Cert.Pre_finite5.fn] at e
  obtain ⟨e, e2⟩ := IntOp.andi_eq_one.mp e
  obtain ⟨e0, e1⟩ := IntOp.andi_eq_one.mp e
  haveI : Subsingleton Cert.Pre_finite5.S_.Idx := ⟨fun a b => funext fun d => Fin.elim0 d⟩
  exact ⟨Reals.of_all _ _ _ _ _ _ _ e0, Reals.of_all _ _ _ _ _ _ _ e1, Reals.of_all _ _ _ _ _ _ _ e2⟩

open Cert.Reference5Ideal.Read in
/-- The reference computes the same function. -/
theorem ref_dh (c : Dev nD) : val_main_v7 (F := Ideal) (wd m c) (dz m c) = fun i => dh m c (i 0) (i 1) := by
  funext i
  pointwise [val_main_v7, val_main_v6, val_main_v5, val_main_cst]
  rfl

open Cert.Reference5Ideal.Read in
/-- The reference computes the same function. -/
theorem ref_gate (c : Dev nD) : val_main_v0 (F := Ideal) (gu m c) = fun i => gate m c (i 0) (i 1) := by
  funext i
  pointwise [val_main_v0]
  rfl

open Cert.Reference5Ideal.Read in
/-- The reference computes the same function. -/
theorem ref_up (c : Dev nD) : val_main_v1 (F := Ideal) (gu m c) = fun i => up m c (i 0) (i 1) := by
  funext i
  pointwise [val_main_v1]
  rfl

open Cert.Reference5Ideal.Read in
/-- The reference computes the same function. -/
theorem ref_sig (c : Dev nD) : val_main_v2_2 (F := Ideal) (gu m c) = fun i => Act.sig (gate m c (i 0) (i 1)) := by
  funext i
  pointwise [val_main_v2_2, val_main_call0_v4, val_main_call0_v3, val_main_call0_v2, val_main_call0_v1, val_main_call0_v0, val_main_call0_cst, val_main_call0_cst_0]
  rw [ref_gate]
  rfl

open Cert.Reference5Ideal.Read in
/-- The reference computes the same function. -/
theorem ref_du (c : Dev nD) : val_main_v15 (F := Ideal) (gu m c) (wd m c) (dz m c) = du m c := by
  funext i
  pointwise [val_main_v15, val_main_v14, val_main_v11, val_main_v8, val_main_v2_0]
  rw [ref_gate, ref_sig, ref_dh]
  exact mul_comm _ _

open Cert.Reference5Ideal.Read in
/-- The reference computes the same function. -/
theorem ref_dg (h : Cert.Pre_Kernel5Ideal_finite5 (hPre_finite5 := Cert.Pre_finite5.Gen.facts) m) (c : Dev nD) :
    val_main_v13 (F := Ideal) (gu m c) (wd m c) (dz m c) = dg m c := by
  funext i
  pointwise [val_main_v13, val_main_v12, val_main_v11, val_main_v10, val_main_call1_v2, val_main_call1_v1, val_main_call1_v0, val_main_v9, val_main_v2_1, val_main_call0_v7, val_main_call0_v6, val_main_call0_cst_1]
  rw [ref_gate, ref_sig, ref_dh, ref_up]
  obtain ⟨hgu, hwd, hdz⟩ := reals m h c
  refine (Reals.swish_grad (Reals.sum _ _ fun k => Reals.mul (Reals.mul (Reals.ofBits _ (by decide)) (hdz _)) (hwd _)) (hgu _) (hgu _)).symm

end Cert.Kernel5Ideal.FfnAct

open Cert.Kernel5Ideal.FfnAct Idealize.ShloMosaic Idealize.SL.Sem in
/-- The kernel and the reference leave the same arrays, at finite arguments. -/
theorem Cert.Kernel5Ideal.FfnAct.algebraic :
    Cert.algebraic_Kernel5Ideal_Reference5Ideal_pre_finite5 (hPre_finite5 := Cert.Pre_finite5.Gen.facts) := by
  intro m g m' g' hpre h
  refine ⟨fun c => dg m c, fun c => du m c, (θ_run _ _ _).mono (fun r hr c => ?_) (Cert.Kernel5Ideal.Value.run_blocks m g),
    (θ_run _ _ _).mono (fun r hr c => ?_) (Cert.Reference5Ideal.Value.run m' g')⟩
  · obtain ⟨h0, h1, hk⟩ := hr c
    exact ⟨h0.trans (final_dg m c), h1.trans (final_du m c), hk⟩
  · obtain ⟨h0, h1, hk⟩ := hr c
    obtain ⟨e0, e1, e2⟩ := h c
    have a := ref_dg m hpre c
    have b := ref_du m c
    unfold gu wd dz at a b
    rw [← e0, ← e1, ← e2] at a b
    exact ⟨h0.trans a, h1.trans b, hk⟩

end
-- ==== Proof.FfnBwdDx.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.ValueKit
public import Idealize.ShloMosaic.Lib.Pointwise

@[expose] public section

set_option maxRecDepth 16384

noncomputable section

namespace Cert.Kernel6Ideal.FfnDx

open Cert.Kernel6Ideal Cert.Kernel6Ideal.Gen Idealize.ShloMosaic Idealize.ShloMosaic.TcCoe Idealize.SL.Sem

variable (m : (ℓ : Loc nD τ sig) → Buf (Elt Ideal) ℓ)

/-- The gradient reaching the residual connection. -/
abbrev dz (c : Dev nD) : S4096x2048.Idx → EReal := m ((c : Thread nD τ).loc main_arg0)
/-- The gradients of the gate's and the up projection's results, side by side. -/
abbrev dgu (c : Dev nD) : S4096x11264.Idx → EReal := m ((c : Thread nD τ).loc main_arg1)
/-- The gate's and the up projection's weights, side by side. -/
abbrev wgu (c : Dev nD) : S2048x11264.Idx → EReal := m ((c : Thread nD τ).loc main_arg2)

/-- The gradient of the layer's input: the residual's share, the gate's and the up projection's. -/
def G (c : Dev nD) : S4096x2048.Idx → EReal := fun i =>
  Ideal.ofBits .f32 0x3F9837F0#32 * dz m c i
    + ∑ k : Fin 5632, dgu m c (ix2 (i 0) ⟨k.val, by omega⟩) * wgu m c (ix2 (i 1) ⟨k.val, by omega⟩)
    + ∑ k : Fin 5632, dgu m c (ix2 (i 0) ⟨5632 + k.val, by omega⟩) * wgu m c (ix2 (i 1) ⟨5632 + k.val, by omega⟩)

/-- Which block each window shows at each grid point. -/
theorem idx : ∀ t : Fin grid0.N, win0_0.index t = win0_5.index t ∧ win0_1.index t = ![win0_5.index t 0, 0] ∧ win0_2.index t = ![win0_5.index t 0, 0] ∧ win0_3.index t = ![win0_5.index t 1, 0] ∧ win0_4.index t = ![win0_5.index t 1, 1] := by decide +kernel

/-- What the whole output array holds at the end. -/
theorem final (c : Dev nD) : (dats m 0 c).arrAt 5 cfg0.N = G m c := by
  refine (dats m 0 c).arrAt_eq_of_covers 5 _ (by decide +kernel) fun t hf y => ?_
  blk_simp
  rw [after0_5]
  frame_out
  unfold_payloads
  pointwise
  unfold G dz dgu wgu
  change @Eq EReal _ _
  blk_point [iblk, V, (idx t).1, (idx t).2.1, (idx t).2.2.1, (idx t).2.2.2.1, (idx t).2.2.2.2]

/-- The reference computes the same function. -/
theorem ref (c : Dev nD) : Cert.Reference6Ideal.Read.val_main_v5 (F := Ideal) (dz m c) (dgu m c) (wgu m c) = G m c := by
  funext i
  pointwise [Cert.Reference6Ideal.Read.val_main_v5, Cert.Reference6Ideal.Read.val_main_v4, Cert.Reference6Ideal.Read.val_main_v3, Cert.Reference6Ideal.Read.val_main_v2, Cert.Reference6Ideal.Read.val_main_cst]
  unfold G
  rw [add_assoc]
  congr 1
  exact Fin.sum_univ_add (a := 5632) (b := 5632) _

end Cert.Kernel6Ideal.FfnDx

open Idealize.ShloMosaic Idealize.SL.Sem in
/-- The kernel and the reference leave the same array. -/
theorem Cert.Kernel6Ideal.FfnDx.algebraic : Cert.algebraic_Kernel6Ideal_Reference6Ideal := by
  intro m g m' g' _ h
  refine ⟨fun c => Cert.Kernel6Ideal.FfnDx.G m c, (θ_run _ _ _).mono (fun r hr c => ?_) (Cert.Kernel6Ideal.Value.run_blocks m g),
    (θ_run _ _ _).mono (fun r hr c => ?_) (Cert.Reference6Ideal.Value.run m' g')⟩
  · obtain ⟨h0, h1⟩ := hr c
    exact ⟨h0.trans (Cert.Kernel6Ideal.FfnDx.final m c), h1⟩
  · obtain ⟨h0, h1⟩ := hr c
    refine ⟨h0.trans ?_, h1⟩
    rw [(h c).1, (h c).2.1, (h c).2.2]
    exact Cert.Kernel6Ideal.FfnDx.ref m c

end
-- ==== Proof.MixInBwd.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pipeline.ValueKit
public import Idealize.ShloMosaic.Lib.Pointwise

@[expose] public section

set_option maxRecDepth 16384

noncomputable section

namespace Cert.Kernel7Ideal.MixInBwd

open Cert.Kernel7Ideal Cert.Kernel7Ideal.Gen Idealize.ShloMosaic Idealize.ShloMosaic.TcCoe Idealize.SL.Sem

variable (m : (ℓ : Loc nD τ sig) → Buf (Elt Ideal) ℓ)

/-- The gradient of the projection's result. -/
abbrev dp (c : Dev nD) : S4096x4096.Idx → EReal := m ((c : Thread nD τ).loc main_arg0)
/-- The projection's weights. -/
abbrev w (c : Dev nD) : S2048x4096.Idx → EReal := m ((c : Thread nD τ).loc main_arg1)
/-- The gradient reaching the residual connection. -/
abbrev dz (c : Dev nD) : S4096x2048.Idx → EReal := m ((c : Thread nD τ).loc main_arg2)

/-- The gradient of the layer's input: the residual's share and the projection's, `α · dz + dp · wᵀ`. -/
def G (c : Dev nD) : S4096x2048.Idx → EReal := fun i =>
  Ideal.ofBits .f32 0x3F9837F0#32 * dz m c i + ∑ k : Fin 4096, dp m c (ix2 (i 0) k) * w m c (ix2 (i 1) k)

/-- Which block each window shows at each grid point. -/
theorem idx : ∀ t : Fin grid0.N, win0_0.index t = ![win0_3.index t 0, 0] ∧ win0_1.index t = ![win0_3.index t 1, 0] ∧ win0_2.index t = win0_3.index t := by decide +kernel

/-- What the whole output array holds at the end. -/
theorem final (c : Dev nD) : (dats m 0 c).arrAt 3 cfg0.N = G m c := by
  refine (dats m 0 c).arrAt_eq_of_covers 3 _ (by decide +kernel) fun t hf y => ?_
  blk_simp
  rw [after0_3]
  frame_out
  unfold_payloads
  pointwise
  unfold G dz dp w
  change @Eq EReal _ _
  blk_point [iblk, V, (idx t).1, (idx t).2.1, (idx t).2.2]

/-- The reference computes the same function. -/
theorem ref (c : Dev nD) : Cert.Reference7Ideal.Read.val_main_v5 (F := Ideal) (dp m c) (w m c) (dz m c) = G m c := by
  funext i
  pointwise [Cert.Reference7Ideal.Read.val_main_v5, Cert.Reference7Ideal.Read.val_main_v4, Cert.Reference7Ideal.Read.val_main_v3, Cert.Reference7Ideal.Read.val_main_v2, Cert.Reference7Ideal.Read.val_main_cst]
  rfl

end Cert.Kernel7Ideal.MixInBwd

open Idealize.ShloMosaic Idealize.SL.Sem in
/-- The kernel and the reference leave the same array. -/
theorem Cert.Kernel7Ideal.MixInBwd.algebraic : Cert.algebraic_Kernel7Ideal_Reference7Ideal := by
  intro m g m' g' _ h
  refine ⟨fun c => Cert.Kernel7Ideal.MixInBwd.G m c, (θ_run _ _ _).mono (fun r hr c => ?_) (Cert.Kernel7Ideal.Value.run_blocks m g),
    (θ_run _ _ _).mono (fun r hr c => ?_) (Cert.Reference7Ideal.Value.run m' g')⟩
  · obtain ⟨h0, h1⟩ := hr c
    exact ⟨h0.trans (Cert.Kernel7Ideal.MixInBwd.final m c), h1⟩
  · obtain ⟨h0, h1⟩ := hr c
    refine ⟨h0.trans ?_, h1⟩
    rw [(h c).1, (h c).2.1, (h c).2.2]
    exact Cert.Kernel7Ideal.MixInBwd.ref m c

end
-- ==== Proof.MixOutBwd.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.ValueKit
public import Idealize.ShloMosaic.Lib.Pointwise

@[expose] public section

set_option maxRecDepth 16384

noncomputable section

namespace Cert.Kernel8Ideal.MixOut

open Cert.Kernel8Ideal Cert.Kernel8Ideal.Gen Idealize.ShloMosaic Idealize.ShloMosaic.TcCoe Idealize.SL.Sem

variable (m : (ℓ : Loc nD τ sig) → Buf (Elt Ideal) ℓ)

/-- An argument of the call, as the device holds it. -/
abbrev a0 (c : Dev nD) : S4096x2048.Idx → EReal := m ((c : Thread nD τ).loc main_arg0)
/-- An argument of the call, as the device holds it. -/
abbrev a1 (c : Dev nD) : S2048x2048.Idx → EReal := m ((c : Thread nD τ).loc main_arg1)

/-- The gradient of the input, as one function of the arguments. -/
def G (c : Dev nD) : S4096x2048.Idx → EReal := fun i =>
  ∑ k : Fin 2048, a0 m c (ix2 (i 0) k) * a1 m c (ix2 (i 1) k)

/-- Which block each window shows at each grid point. -/
theorem idx : ∀ t : Fin grid0.N, win0_0.index t = ![win0_2.index t 0, 0] ∧ win0_1.index t = ![win0_2.index t 1, 0] := by decide +kernel

/-- What the whole output array holds at the end. -/
theorem final (c : Dev nD) : (dats m 0 c).arrAt 2 cfg0.N = G m c := by
  refine (dats m 0 c).arrAt_eq_of_covers 2 _ (by decide +kernel) fun t hf y => ?_
  blk_simp
  rw [after0_2]
  frame_out
  unfold_payloads
  pointwise
  unfold G a0 a1
  change @Eq EReal _ _
  blk_point [iblk, V, (idx t).1, (idx t).2]

/-- The reference computes the same function. -/
theorem ref (c : Dev nD) : Cert.Reference8Ideal.Read.val_main_v2 (F := Ideal) (a0 m c) (a1 m c) = G m c := by
  funext i
  pointwise [Cert.Reference8Ideal.Read.val_main_v2]
  rfl

end Cert.Kernel8Ideal.MixOut

open Idealize.ShloMosaic Idealize.SL.Sem in
/-- The kernel and its reference compute the same function of the arguments. -/
theorem Cert.Kernel8Ideal.MixOut.algebraic : Cert.algebraic_Kernel8Ideal_Reference8Ideal := by
  intro m g m' g' _ h
  refine ⟨fun c => Cert.Kernel8Ideal.MixOut.G m c, (θ_run _ _ _).mono (fun r hr c => ?_) (Cert.Kernel8Ideal.Value.run_blocks m g),
    (θ_run _ _ _).mono (fun r hr c => ?_) (Cert.Reference8Ideal.Value.run m' g')⟩
  · obtain ⟨h0, h1⟩ := hr c
    exact ⟨h0.trans (Cert.Kernel8Ideal.MixOut.final m c), h1⟩
  · obtain ⟨h0, h1⟩ := hr c
    refine ⟨h0.trans ?_, h1⟩
    rw [(h c).1, (h c).2]
    exact Cert.Kernel8Ideal.MixOut.ref m c

end
-- ==== Proof.MixOutDw.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.ValueKit
public import Idealize.ShloMosaic.Lib.Pointwise

@[expose] public section

set_option maxRecDepth 16384

noncomputable section

namespace Cert.Kernel9Ideal.Dw

open Cert.Kernel9Ideal Cert.Kernel9Ideal.Gen Idealize.ShloMosaic Idealize.ShloMosaic.TcCoe Idealize.SL.Sem

variable (m : (ℓ : Loc nD τ sig) → Buf (Elt Ideal) ℓ)

/-- An argument of the call, as the device holds it. -/
abbrev a0 (c : Dev nD) : S4096x2048.Idx → EReal := m ((c : Thread nD τ).loc main_arg0)
/-- An argument of the call, as the device holds it. -/
abbrev a1 (c : Dev nD) : S4096x2048.Idx → EReal := m ((c : Thread nD τ).loc main_arg1)

/-- The gradient of the weight, as one function of the arguments. -/
def G (c : Dev nD) : S2048x2048.Idx → EReal := fun i =>
  ∑ k : Fin 4096, a0 m c (ix2 k (i 0)) * a1 m c (ix2 k (i 1))

/-- Which block each window shows at each grid point. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the whole output array holds at the end. -/
theorem final (c : Dev nD) : (dats m 0 c).arrAt 2 cfg0.N = G m c := by
  refine (dats m 0 c).arrAt_eq_of_covers 2 _ (by decide +kernel) fun t hf y => ?_
  blk_simp
  rw [after0_2]
  frame_out
  unfold_payloads
  pointwise
  unfold G a0 a1
  change @Eq EReal _ _
  blk_point [iblk, V, (idx t).1, (idx t).2]

/-- The reference computes the same function. -/
theorem ref (c : Dev nD) : Cert.Reference9Ideal.Read.val_main_v4 (F := Ideal) (a0 m c) (a1 m c) = G m c := by
  funext i
  pointwise [Cert.Reference9Ideal.Read.val_main_v4, Cert.Reference9Ideal.Read.val_main_v3, Cert.Reference9Ideal.Read.val_main_v2]
  unfold G
  exact Finset.sum_congr rfl fun k _ => mul_comm _ _

end Cert.Kernel9Ideal.Dw

open Idealize.ShloMosaic Idealize.SL.Sem in
/-- The kernel and its reference compute the same function of the arguments. -/
theorem Cert.Kernel9Ideal.Dw.algebraic : Cert.algebraic_Kernel9Ideal_Reference9Ideal := by
  intro m g m' g' _ h
  refine ⟨fun c => Cert.Kernel9Ideal.Dw.G m c, (θ_run _ _ _).mono (fun r hr c => ?_) (Cert.Kernel9Ideal.Value.run_blocks m g),
    (θ_run _ _ _).mono (fun r hr c => ?_) (Cert.Reference9Ideal.Value.run m' g')⟩
  · obtain ⟨h0, h1⟩ := hr c
    exact ⟨h0.trans (Cert.Kernel9Ideal.Dw.final m c), h1⟩
  · obtain ⟨h0, h1⟩ := hr c
    refine ⟨h0.trans ?_, h1⟩
    rw [(h c).1, (h c).2]
    exact Cert.Kernel9Ideal.Dw.ref m c

end
-- ==== Proof.MixInDw.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import proofs.«01_k».proof.Proof.Adam
public import Idealize.ShloMosaic.Lib.Pipeline.ValueKit
public import Idealize.ShloMosaic.Lib.Pointwise

@[expose] public section

set_option maxRecDepth 16384

noncomputable section

namespace Cert.Kernel10Ideal.Dw

open Cert.Kernel10Ideal Cert.Kernel10Ideal.Gen Idealize.ShloMosaic Idealize.ShloMosaic.TcCoe Idealize.SL.Sem

variable (m : (ℓ : Loc nD τ sig) → Buf (Elt Ideal) ℓ)

/-- The activations `x` the projection multiplied. -/
abbrev x (c : Dev nD) : S4096x2048.Idx → EReal := m ((c : Thread nD τ).loc main_arg0)
/-- The gradient of the projection's result. -/
abbrev dp (c : Dev nD) : S4096x4096.Idx → EReal := m ((c : Thread nD τ).loc main_arg1)

/-- The gradient of the weight matrix, its columns cut in eight blocks: `∑ₖ x[k, i₁] · dp[k, 512·i₀ + i₂]`. -/
def G (c : Dev nD) : S8x2048x512.Idx → EReal := fun i =>
  ∑ k : Fin 4096, x m c (ix2 k (i 1)) * dp m c (ix2 k ⟨(i 0).val * 512 + (i 2).val, by have h0 : (i 0).val < 8 := (i 0).isLt; have h2 : (i 2).val < 512 := (i 2).isLt; omega⟩)

/-- The other weight matrix's part this chip updates. -/
abbrev w (c : Dev nD) : S2048x1408.Idx → EReal := m ((c : Thread nD τ).loc main_arg2)
/-- The running mean of its gradients. -/
abbrev mu (c : Dev nD) : S2048x1408.Idx → EReal := m ((c : Thread nD τ).loc main_arg3)
/-- The running mean of its squared gradients. -/
abbrev nu (c : Dev nD) : S2048x1408.Idx → EReal := m ((c : Thread nD τ).loc main_arg4)
/-- The own chip's part of its gradient. -/
abbrev own (c : Dev nD) : S2048x1408.Idx → EReal := m ((c : Thread nD τ).loc main_arg5)
/-- The other chips' parts of its gradient. -/
abbrev got (c : Dev nD) : S3x2048x1408.Idx → EReal := m ((c : Thread nD τ).loc main_arg6)
/-- The gradient: the sum of the four chips' parts. -/
def grad (c : Dev nD) : S2048x1408.Idx → EReal := fun i =>
  own m c i + got m c (ix3 0 (i 0) (i 1)) + got m c (ix3 1 (i 0) (i 1)) + got m c (ix3 2 (i 0) (i 1))
/-- The running mean after this step. -/
def mean (c : Dev nD) : S2048x1408.Idx → EReal := fun i => Adam.mean (grad m c i) (mu m c i)
/-- The running mean of squares after this step. -/
def square (c : Dev nD) : S2048x1408.Idx → EReal := fun i => Adam.square (grad m c i) (nu m c i)
/-- How far the weights move. -/
def move (c : Dev nD) : S2048x1408.Idx → EReal := fun i => Adam.move (w m c i) (grad m c i) (mu m c i) (nu m c i)

/-- Which block each window shows at each grid point. -/
theorem idx : ∀ t : Fin grid0.N, win0_0.index t = ![t.val % 4, 0] ∧ win0_1.index t = ![0, t.val / 4] ∧ win0_2.index t = ![t.val, 0] ∧ win0_3.index t = ![t.val, 0]
    ∧ win0_4.index t = ![t.val, 0] ∧ win0_5.index t = ![t.val, 0] ∧ win0_6.index t = ![0, t.val, 0] ∧ win0_7.index t = ![t.val / 4, t.val % 4, 0]
    ∧ win0_8.index t = ![t.val, 0] ∧ win0_9.index t = ![t.val, 0] ∧ win0_10.index t = ![t.val, 0] ∧ win0_11.index t = ![t.val, 0] := by decide +kernel

/-- The array's column that row `p` of point `t`'s block of `xᵀ` is. -/
abbrev rowAt (t : Fin grid0.N) (p : Fin 512) : Fin 2048 := ⟨t.val % 4 * 512 + p.val, by have := p.isLt; omega⟩

/-- The array's column that column `q` of point `t`'s block of `dp` is. -/
abbrev colAt (t : Fin grid0.N) (q : Fin 512) : Fin 4096 :=
  ⟨t.val / 4 * 512 + q.val, by have ht : t.val < 32 := lt_of_lt_of_eq t.isLt N_0; have := q.isLt; omega⟩

/-- What the window shows of its array, entry by entry. -/
theorem block_x (c : Dev nD) (t : Fin grid0.N) (p : Fin 512) (k : Fin 4096) :
    @Eq EReal (iblk m c 0 t (ix2 p k)) (x m c (ix2 k (rowAt t p))) := by
  unfold x
  blk_point [iblk, V, (idx t).1]

/-- What the window shows of its array, entry by entry. -/
theorem block_dp (c : Dev nD) (t : Fin grid0.N) (k : Fin 4096) (q : Fin 512) :
    @Eq EReal (iblk m c 1 t (ix2 k q)) (dp m c (ix2 k (colAt t q))) := by
  unfold dp
  blk_point [iblk, V, (idx t).2.1]

/-- Every point stores its block of the product. -/
theorem stored (c : Dev nD) (t : Fin cfg0.N) (z : Fin 1) (p q : Fin 512) :
    @Eq EReal ((outsAt0 m c t).1 (ix3 z p q)) (∑ k : Fin 4096, x m c (ix2 k (rowAt t p)) * dp m c (ix2 k (colAt t q))) := by
  unfold outsAt0
  frame_out
  unfold_payloads
  pointwise
  simp only [block_x, block_dp]

/-- What the whole output array holds at the end. -/
theorem final_dw (c : Dev nD) : (dats m 0 c).arrAt 7 cfg0.N = G m c := by
  refine (dats m 0 c).arrAt_eq_of_covers 7 _ (by decide +kernel) fun t hf y => ?_
  obtain ⟨z, p, q, rfl⟩ : ∃ (z : Fin 1) (p q : Fin 512), y = ix3 z p q := ⟨y 0, y 1, y 2, eq_ix3 y⟩
  have ht : t.val < 32 := lt_of_lt_of_eq t.isLt N_0
  have hz : z.val = 0 := by omega
  blk_simp
  rw [after0_7]
  refine (stored m c t z p q).trans (congrArg (G m c) (a₁ := ix3 ⟨t.val / 4, by omega⟩ (rowAt t p) q) ?_)
  funext a
  apply Fin.ext
  match a with
  | ⟨0, _⟩ => show t.val / 4 = win0_7.index t 0 * 1 + 1 * z.val; rw [(idx t).2.2.2.2.2.2.2.1, hz]; simp
  | ⟨1, _⟩ => show t.val % 4 * 512 + p.val = win0_7.index t 1 * 512 + 1 * p.val; rw [(idx t).2.2.2.2.2.2.2.1]; simp
  | ⟨2, _⟩ => show q.val = win0_7.index t 2 * 512 + 1 * q.val; rw [(idx t).2.2.2.2.2.2.2.1]; simp

/-- The side's row that row `p` of point `t`'s block is. -/
abbrev sideAt (t : Fin grid0.N) (p : Fin 64) : Fin 2048 :=
  ⟨t.val * 64 + p.val, by have ht : t.val < 32 := lt_of_lt_of_eq t.isLt N_0; have := p.isLt; omega⟩

/-- What the window shows of its array, entry by entry. -/
theorem block_w (c : Dev nD) (t : Fin grid0.N) (p : Fin 64) (q : Fin 1408) :
    @Eq EReal (iblk m c 2 t (ix2 p q)) (w m c (ix2 (sideAt t p) q)) := by
  unfold w
  blk_point [iblk, V, (idx t).2.2.1]

/-- What the window shows of its array, entry by entry. -/
theorem block_mu (c : Dev nD) (t : Fin grid0.N) (p : Fin 64) (q : Fin 1408) :
    @Eq EReal (iblk m c 3 t (ix2 p q)) (mu m c (ix2 (sideAt t p) q)) := by
  unfold mu
  blk_point [iblk, V, (idx t).2.2.2.1]

/-- What the window shows of its array, entry by entry. -/
theorem block_nu (c : Dev nD) (t : Fin grid0.N) (p : Fin 64) (q : Fin 1408) :
    @Eq EReal (iblk m c 4 t (ix2 p q)) (nu m c (ix2 (sideAt t p) q)) := by
  unfold nu
  blk_point [iblk, V, (idx t).2.2.2.2.1]

/-- What the window shows of its array, entry by entry. -/
theorem block_own (c : Dev nD) (t : Fin grid0.N) (p : Fin 64) (q : Fin 1408) :
    @Eq EReal (iblk m c 5 t (ix2 p q)) (own m c (ix2 (sideAt t p) q)) := by
  unfold own
  blk_point [iblk, V, (idx t).2.2.2.2.2.1]

/-- What the window shows of its array, entry by entry. -/
theorem block_got (c : Dev nD) (t : Fin grid0.N) (z : Fin 3) (p : Fin 64) (q : Fin 1408) :
    @Eq EReal (iblk m c 6 t (ix3 z p q)) (got m c (ix3 z (sideAt t p) q)) := by
  unfold got
  blk_point [iblk, V, (idx t).2.2.2.2.2.2.1]

/-- The row of a side's array that row `p` of window `8`'s to `11`'s block is. -/
theorem side_index (t : Fin grid0.N) (p : Fin 64) (q : Fin 1408) (A : S2048x1408.Idx → EReal) (e0 e1 : ℕ) (h0 : e0 = t.val) (h1 : e1 = 0)
    (i : S2048x1408.Idx) (hi0 : (i 0).val = e0 * 64 + 1 * p.val) (hi1 : (i 1).val = e1 * 1408 + 1 * q.val) : A (ix2 (sideAt t p) q) = A i := by
  refine congrArg A ?_
  funext a
  apply Fin.ext
  match a with
  | ⟨0, _⟩ => show t.val * 64 + p.val = (i 0).val; rw [hi0, h0, one_mul]
  | ⟨1, _⟩ => show q.val = (i 1).val; rw [hi1, h1]; simp

/-- What the body stores at a grid point, entry by entry. -/
theorem stored_grad (c : Dev nD) (t : Fin cfg0.N) (p : Fin 64) (q : Fin 1408) :
    @Eq EReal ((outsAt0 m c t).2.1 (ix2 p q)) (grad m c (ix2 (sideAt t p) q)) := by
  unfold outsAt0
  frame_out
  unfold_payloads
  pointwise
  simp only [block_w, block_mu, block_nu, block_own, block_got]
  rfl

/-- What the whole output array holds at the end. -/
theorem final_grad (c : Dev nD) : (dats m 0 c).arrAt 8 cfg0.N = grad m c := by
  refine (dats m 0 c).arrAt_eq_of_covers 8 _ (by decide +kernel) fun t hf y => ?_
  obtain ⟨p, q, rfl⟩ : ∃ (p : Fin 64) (q : Fin 1408), y = ix2 p q := ⟨y 0, y 1, eq_ix2 y⟩
  blk_simp
  rw [after0_8]
  exact (stored_grad m c t p q).trans (side_index t p q _ _ _ (congrFun (idx t).2.2.2.2.2.2.2.2.1 0) (congrFun (idx t).2.2.2.2.2.2.2.2.1 1) _ rfl rfl)

/-- What the body stores at a grid point, entry by entry. -/
theorem stored_move (c : Dev nD) (t : Fin cfg0.N) (p : Fin 64) (q : Fin 1408) :
    @Eq EReal ((outsAt0 m c t).2.2.1 (ix2 p q)) (move m c (ix2 (sideAt t p) q)) := by
  unfold outsAt0
  frame_out
  unfold_payloads
  pointwise
  simp only [block_w, block_mu, block_nu, block_own, block_got]
  rfl

/-- What the whole output array holds at the end. -/
theorem final_move (c : Dev nD) : (dats m 0 c).arrAt 9 cfg0.N = move m c := by
  refine (dats m 0 c).arrAt_eq_of_covers 9 _ (by decide +kernel) fun t hf y => ?_
  obtain ⟨p, q, rfl⟩ : ∃ (p : Fin 64) (q : Fin 1408), y = ix2 p q := ⟨y 0, y 1, eq_ix2 y⟩
  blk_simp
  rw [after0_9]
  exact (stored_move m c t p q).trans (side_index t p q _ _ _ (congrFun (idx t).2.2.2.2.2.2.2.2.2.1 0) (congrFun (idx t).2.2.2.2.2.2.2.2.2.1 1) _ rfl rfl)

/-- What the body stores at a grid point, entry by entry. -/
theorem stored_mean (c : Dev nD) (t : Fin cfg0.N) (p : Fin 64) (q : Fin 1408) :
    @Eq EReal ((outsAt0 m c t).2.2.2.1 (ix2 p q)) (mean m c (ix2 (sideAt t p) q)) := by
  unfold outsAt0
  frame_out
  unfold_payloads
  pointwise
  simp only [block_w, block_mu, block_nu, block_own, block_got]
  rfl

/-- What the whole output array holds at the end. -/
theorem final_mean (c : Dev nD) : (dats m 0 c).arrAt 10 cfg0.N = mean m c := by
  refine (dats m 0 c).arrAt_eq_of_covers 10 _ (by decide +kernel) fun t hf y => ?_
  obtain ⟨p, q, rfl⟩ : ∃ (p : Fin 64) (q : Fin 1408), y = ix2 p q := ⟨y 0, y 1, eq_ix2 y⟩
  blk_simp
  rw [after0_10]
  exact (stored_mean m c t p q).trans (side_index t p q _ _ _ (congrFun (idx t).2.2.2.2.2.2.2.2.2.2.1 0) (congrFun (idx t).2.2.2.2.2.2.2.2.2.2.1 1) _ rfl rfl)

/-- What the body stores at a grid point, entry by entry. -/
theorem stored_square (c : Dev nD) (t : Fin cfg0.N) (p : Fin 64) (q : Fin 1408) :
    @Eq EReal ((outsAt0 m c t).2.2.2.2 (ix2 p q)) (square m c (ix2 (sideAt t p) q)) := by
  unfold outsAt0
  frame_out
  unfold_payloads
  pointwise
  simp only [block_w, block_mu, block_nu, block_own, block_got]
  rfl

/-- What the whole output array holds at the end. -/
theorem final_square (c : Dev nD) : (dats m 0 c).arrAt 11 cfg0.N = square m c := by
  refine (dats m 0 c).arrAt_eq_of_covers 11 _ (by decide +kernel) fun t hf y => ?_
  obtain ⟨p, q, rfl⟩ : ∃ (p : Fin 64) (q : Fin 1408), y = ix2 p q := ⟨y 0, y 1, eq_ix2 y⟩
  blk_simp
  rw [after0_11]
  exact (stored_square m c t p q).trans (side_index t p q _ _ _ (congrFun (idx t).2.2.2.2.2.2.2.2.2.2.2 0) (congrFun (idx t).2.2.2.2.2.2.2.2.2.2.2 1) _ rfl rfl)

/-! ### The reference -/

/-- The reference computes the same function. -/
theorem ref (c : Dev nD) : Cert.Reference10Ideal.Read.val_main_v6 (F := Ideal) (x m c) (dp m c) = G m c := by
  funext i
  pointwise [Cert.Reference10Ideal.Read.val_main_v6, Cert.Reference10Ideal.Read.val_main_v5, Cert.Reference10Ideal.Read.val_main_v4, Cert.Reference10Ideal.Read.val_main_v3, Cert.Reference10Ideal.Read.val_main_v2]
  unfold G
  exact Finset.sum_congr rfl fun k _ => mul_comm _ _

/-- The reference computes the same function. -/
theorem ref_grad (c : Dev nD) : Cert.Reference10Ideal.Read.val_main_v10 (F := Ideal) (own m c) (got m c) = grad m c := by
  funext i
  pointwise [Cert.Reference10Ideal.Read.val_main_v10, Cert.Reference10Ideal.Read.val_main_v9, Cert.Reference10Ideal.Read.val_main_v8, Cert.Reference10Ideal.Read.val_main_v7, Cert.Reference10Ideal.Read.val_main_cst_0]
  unfold grad
  rw [Fin.sum_univ_three]
  simp only [add_assoc]

/-- The reference computes the same function. -/
theorem ref_mean (c : Dev nD) : Cert.Reference10Ideal.Read.val_main_v15 (F := Ideal) (mu m c) (own m c) (got m c) = mean m c := by
  funext i
  pointwise [Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_cst_1, Cert.Reference10Ideal.Read.val_main_cst_2]
  rw [ref_grad]
  rfl

/-- The reference computes the same function. -/
theorem ref_square (c : Dev nD) : Cert.Reference10Ideal.Read.val_main_v21 (F := Ideal) (nu m c) (own m c) (got m c) = square m c := by
  funext i
  pointwise [Cert.Reference10Ideal.Read.val_main_v21, Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_cst_3, Cert.Reference10Ideal.Read.val_main_cst_4]
  rw [ref_grad]
  rfl

/-- The reference computes the same function. -/
theorem ref_move (c : Dev nD) : Cert.Reference10Ideal.Read.val_main_v34 (F := Ideal) (w m c) (mu m c) (nu m c) (own m c) (got m c) = move m c := by
  funext i
  pointwise [Cert.Reference10Ideal.Read.val_main_v34, Cert.Reference10Ideal.Read.val_main_v33, Cert.Reference10Ideal.Read.val_main_v32, Cert.Reference10Ideal.Read.val_main_v31, Cert.Reference10Ideal.Read.val_main_v30, Cert.Reference10Ideal.Read.val_main_v29, Cert.Reference10Ideal.Read.val_main_v28, Cert.Reference10Ideal.Read.val_main_v27, Cert.Reference10Ideal.Read.val_main_v26, Cert.Reference10Ideal.Read.val_main_v25, Cert.Reference10Ideal.Read.val_main_v24, Cert.Reference10Ideal.Read.val_main_v23, Cert.Reference10Ideal.Read.val_main_v22, Cert.Reference10Ideal.Read.val_main_cst_5, Cert.Reference10Ideal.Read.val_main_cst_6, Cert.Reference10Ideal.Read.val_main_cst_7, Cert.Reference10Ideal.Read.val_main_cst_8, Cert.Reference10Ideal.Read.val_main_cst_9]
  rw [ref_mean, ref_square]
  rfl

end Cert.Kernel10Ideal.Dw

open Cert.Kernel10Ideal.Dw Idealize.ShloMosaic Idealize.SL.Sem in
/-- The kernel and the reference leave the same five arrays. -/
theorem Cert.Kernel10Ideal.Dw.algebraic : Cert.algebraic_Kernel10Ideal_Reference10Ideal := by
  intro m g m' g' _ h
  refine ⟨fun c => G m c, fun c => grad m c, fun c => move m c, fun c => mean m c, fun c => square m c,
    (θ_run _ _ _).mono (fun r hr c => ?_) (Cert.Kernel10Ideal.Value.run_blocks m g),
    (θ_run _ _ _).mono (fun r hr c => ?_) (Cert.Reference10Ideal.Value.run m' g')⟩
  · obtain ⟨hp, h0, h1, h2, h3, hk⟩ := hr c
    exact ⟨hp.trans (final_dw m c), h0.trans (final_grad m c), h1.trans (final_move m c), h2.trans (final_mean m c), h3.trans (final_square m c), hk⟩
  · obtain ⟨hp, h0, h1, h2, h3, hk⟩ := hr c
    obtain ⟨e0, e1, e2, e3, e4, e5, e6⟩ := h c
    refine ⟨hp.trans ?_, h0.trans ?_, h1.trans ?_, h2.trans ?_, h3.trans ?_, hk⟩ <;> simp only [e0, e1, e2, e3, e4, e5, e6]
    · exact ref m c
    · exact ref_grad m c
    · exact ref_move m c
    · exact ref_mean m c
    · exact ref_square m c

end
-- ==== Proof.Norm.lean ====
module

public import Idealize.ShloMosaic.Lib.Pointwise

@[expose] public section

noncomputable section

/-! The layer norm of one row of 2048 entries, as the reference writes it. -/

namespace Cert.Norm

open Idealize.ShloMosaic

/-- The mean of a row. -/
def mean (x : Fin 2048 → EReal) : EReal := Ideal.div (∑ k, x k) (Ideal.ofBits .f32 0x45000000#32)

/-- An entry less the row's mean. -/
def centred (x : Fin 2048 → EReal) (j : Fin 2048) : EReal := x j - mean x

/-- One over the row's standard deviation. -/
def scale (x : Fin 2048 → EReal) : EReal :=
  Ideal.rsqrt (mean (fun k => centred x k * centred x k) + Ideal.ofBits .f32 0x3727C5AC#32)

/-- The norm of a row at entry `j`, with scale `g` and shift `b`. -/
def norm (x g b : Fin 2048 → EReal) (j : Fin 2048) : EReal := centred x j * scale x * g j + b j

end Cert.Norm

end
-- ==== Proof.FfnDownFwd.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Norm
public import proofs.«01_k».proof.Proof.Act
public import proofs.«01_k».proof.Defs
public import Idealize.ShloMosaic.Lib.Pipeline.ValueKit
public import Idealize.ShloMosaic.Lib.Pointwise

@[expose] public section

set_option maxRecDepth 16384

noncomputable section

namespace Cert.Kernel11Ideal.FfnDown

open Cert.Kernel11Ideal Cert.Kernel11Ideal.Gen Idealize.ShloMosaic Idealize.ShloMosaic.TcCoe Idealize.SL.Sem

variable (m : (ℓ : Loc nD τ sig) → Buf (Elt Ideal) ℓ)

/-- The gate's and the up projection's results, side by side. -/
abbrev gu (c : Dev nD) : S4096x11264.Idx → EReal := m ((c : Thread nD τ).loc main_arg0)
/-- The layer's input. -/
abbrev x (c : Dev nD) : S4096x2048.Idx → EReal := m ((c : Thread nD τ).loc main_arg1)
/-- The down projection's weights. -/
abbrev wd (c : Dev nD) : S5632x2048.Idx → EReal := m ((c : Thread nD τ).loc main_arg2)
/-- The norm's scale. -/
abbrev g (c : Dev nD) : S2048.Idx → EReal := m ((c : Thread nD τ).loc main_arg3)
/-- The norm's shift. -/
abbrev b (c : Dev nD) : S2048.Idx → EReal := m ((c : Thread nD τ).loc main_arg4)

/-- The hidden layer. -/
def hid (c : Dev nD) (r : Fin 4096) (k : Fin 5632) : EReal :=
  Act.swiglu (gu m c (ix2 r ⟨k.val, by omega⟩)) (gu m c (ix2 r ⟨5632 + k.val, by omega⟩))

/-- The hidden layer, transposed. -/
def hT (c : Dev nD) : S5632x4096.Idx → EReal := fun i => hid m c (i 1) (i 0)

/-- The residual connection. -/
def z (c : Dev nD) : S4096x2048.Idx → EReal := fun i =>
  Ideal.ofBits .f32 0x3F9837F0#32 * x m c i + Ideal.ofBits .f32 0x3F000000#32 * ∑ k : Fin 5632, hid m c (i 0) k * wd m c (ix2 k (i 1))

/-- The norm of the residual connection. -/
def xn (c : Dev nD) : S4096x2048.Idx → EReal := fun i =>
  Norm.norm (fun k => z m c (ix2 (i 0) k)) (fun k => g m c (ix1 k)) (fun k => b m c (ix1 k)) (i 1)

/-! ### The blocks -/

/-- Which block each window shows at each grid point. -/
theorem idx : ∀ t : Fin grid0.N, win0_0.index t = ![t.val / 11, t.val % 11] ∧ win0_1.index t = ![t.val / 11, t.val % 11 + 11]
    ∧ win0_2.index t = ![t.val % 11, 0] ∧ win0_3.index t = ![t.val / 11, 0] ∧ win0_4.index t = ![0, 0] ∧ win0_5.index t = ![0, 0]
    ∧ win0_6.index t = ![t.val % 11, t.val / 11] ∧ win0_7.index t = ![t.val / 11, 0] ∧ win0_8.index t = ![t.val / 11, 0] := by
  decide +kernel

/-- The array's row that row `p` of point `t`'s block is. -/
abbrev rowAt (t : Fin grid0.N) (p : Fin 512) : Fin 4096 :=
  ⟨t.val / 11 * 512 + p.val, by have ht : t.val < 88 := lt_of_lt_of_eq t.isLt N_0; have := p.isLt; omega⟩

/-- The hidden feature that column `k` of point `t`'s block is. -/
abbrev colAt (t : Fin grid0.N) (k : Fin 512) : Fin 5632 :=
  ⟨t.val % 11 * 512 + k.val, by have := k.isLt; omega⟩

/-- What the window shows of its array, entry by entry. -/
theorem block_gate (c : Dev nD) (t : Fin grid0.N) (p k : Fin 512) :
    @Eq EReal (iblk m c 0 t (ix2 p k)) (gu m c (ix2 (rowAt t p) ⟨(colAt t k).val, by omega⟩)) := by
  unfold gu
  blk_point [iblk, V, (idx t).1]

/-- What the window shows of its array, entry by entry. -/
theorem block_up (c : Dev nD) (t : Fin grid0.N) (p k : Fin 512) :
    @Eq EReal (iblk m c 1 t (ix2 p k)) (gu m c (ix2 (rowAt t p) ⟨5632 + (colAt t k).val, by omega⟩)) := by
  unfold gu
  blk_point [iblk, V, (idx t).2.1]

/-- What the window shows of its array, entry by entry. -/
theorem block_wd (c : Dev nD) (t : Fin grid0.N) (k : Fin 512) (q : Fin 2048) :
    @Eq EReal (iblk m c 2 t (ix2 k q)) (wd m c (ix2 (colAt t k) q)) := by
  unfold wd
  blk_point [iblk, V, (idx t).2.2.1]

/-- What the window shows of its array, entry by entry. -/
theorem block_x (c : Dev nD) (t : Fin grid0.N) (p : Fin 512) (q : Fin 2048) :
    @Eq EReal (iblk m c 3 t (ix2 p q)) (x m c (ix2 (rowAt t p) q)) := by
  unfold x
  blk_point [iblk, V, (idx t).2.2.2.1]

/-- What the window shows of its array, entry by entry. -/
theorem block_g (c : Dev nD) (t : Fin grid0.N) (q : Fin 2048) : @Eq EReal (iblk m c 4 t (ix2 0 q)) (g m c (ix1 q)) := by
  unfold g
  blk_point [iblk, V, (idx t).2.2.2.2.1]

/-- What the window shows of its array, entry by entry. -/
theorem block_b (c : Dev nD) (t : Fin grid0.N) (q : Fin 2048) : @Eq EReal (iblk m c 5 t (ix2 0 q)) (b m c (ix1 q)) := by
  unfold b
  blk_point [iblk, V, (idx t).2.2.2.2.2.1]

/-- Reading back what was stored over the whole scratch array. -/
theorem read_scratch (h : scM0_0.IsWhole) (v : Vec Ideal S512x2048 .f32) : View.read (Elt Ideal) (View.whole cc0_scratch0) (h.unread v) = v :=
  h.read_unread v

/-- Every point stores its block of the hidden layer. -/
theorem stored_h (c : Dev nD) (t : Fin cfg0.N) (k p : Fin 512) :
    @Eq EReal ((outsAt0 m c t.val t.isLt).1 (ix2 k p)) (hid m c (rowAt t p) (colAt t k)) := by
  by_cases h0 : t.val % 11 = 0
  · rw [outsAt0_A m c t h0 (by omega)]
    frame_out
    unfold_payloads
    pointwise
    simp only [block_gate, block_up, Act.sig_of_sub]
    rfl
  by_cases h1 : t.val % 11 = 10
  · rw [outsAt0_C m c t h0 h1]
    frame_out
    unfold_payloads
    pointwise
    simp only [block_gate, block_up, Act.sig_of_sub]
    rfl
  · rw [outsAt0_B m c t h0 h1]
    frame_out
    unfold_payloads
    pointwise
    simp only [block_gate, block_up, Act.sig_of_sub]
    rfl

/-- What a point adds to the accumulator: its hidden features' part of the product. -/
def part (c : Dev nD) (p : Fin 512) (q : Fin 2048) (t : Fin cfg0.N) : EReal :=
  ∑ k : Fin 512, hid m c (rowAt t p) (colAt t k) * wd m c (ix2 (colAt t k) q)

/-- After the last point of a run of eleven the accumulator holds the whole product. -/
theorem product (c : Dev nD) (t : Fin cfg0.N) (ht : t.val % 11 = 10) (p : Fin 512) (q : Fin 2048) :
    @Eq EReal ((outsAt0 m c t.val t.isLt).2.2.2 (ix2 p q)) (∑ k : Fin 5632, hid m c (rowAt t p) k * wd m c (ix2 k q)) := by
  refine (Pipeline.eq_sum_fin_of_reset_step_of_flush (M := EReal) (fun n h => (outsAt0 m c n h).2.2.2 (ix2 p q)) 11 0 (part m c p q)
    (fun s h0 => ?_) (fun s h0 => ?_) t ht).trans ?_
  · rw [outsAt0_A m c s h0 (by omega), zero_add]
    frame_out
    unfold_payloads
    pointwise
    simp only [block_gate, block_up, block_wd, Act.sig_of_sub]
    rfl
  · by_cases h1 : s.val % 11 = 10
    · rw [outsAt0_C m c s h0 h1]
      frame_out
      unfold_payloads
      pointwise
      simp only [read_scratch, block_gate, block_up, block_wd, Act.sig_of_sub]
      rfl
    · rw [outsAt0_B m c s h0 h1]
      frame_out
      unfold_payloads
      pointwise
      simp only [read_scratch, block_gate, block_up, block_wd, Act.sig_of_sub]
      rfl
  · rw [zero_add]
    refine Fin.sum_mul_add_congr (n := 512) fun s k hl => ?_
    have ht : t.val < 88 := lt_of_lt_of_eq t.isLt N_0
    have e1 : (11 * (t.val / 11) + s.val) / 11 = t.val / 11 := by have := s.isLt; omega
    have e2 : (11 * (t.val / 11) + s.val) % 11 = s.val := by have := s.isLt; omega
    simp only [rowAt, colAt, e1, e2]

/-- The last point of a run stores the residual connection's rows. -/
theorem stored_z (c : Dev nD) (t : Fin cfg0.N) (ht : t.val % 11 = 10) (p : Fin 512) (q : Fin 2048) :
    @Eq EReal ((outsAt0 m c t.val t.isLt).2.1 (ix2 p q)) (z m c (ix2 (rowAt t p) q)) := by
  have hp := product m c t ht p q
  rw [outsAt0_C m c t (by omega) ht] at hp ⊢
  revert hp
  frame_out
  unfold_payloads
  pointwise
  intro hp
  rw [hp, block_x]
  rfl

/-- The last point of a run stores the norm's rows. -/
theorem stored_xn (c : Dev nD) (t : Fin cfg0.N) (ht : t.val % 11 = 10) (p : Fin 512) (q : Fin 2048) :
    @Eq EReal ((outsAt0 m c t.val t.isLt).2.2.1 (ix2 p q)) (xn m c (ix2 (rowAt t p) q)) := by
  have hz := fun k => stored_z m c t ht p k
  rw [outsAt0_C m c t (by omega) ht] at hz ⊢
  revert hz
  frame_out
  unfold_payloads
  pointwise
  intro hz
  simp only [hz, block_g, block_b]
  rfl

/-! ### The arrays -/

/-- What the whole output array holds at the end. -/
theorem final_hT (c : Dev nD) : (dats m 0 c).arrAt 6 cfg0.N = hT m c := by
  refine (dats m 0 c).arrAt_eq_of_covers 6 _ (by decide +kernel) fun t hf y => ?_
  obtain ⟨k, p, rfl⟩ : ∃ (k p : Fin 512), y = ix2 k p := ⟨y 0, y 1, eq_ix2 y⟩
  blk_simp
  rw [after0_6]
  refine (stored_h m c t k p).trans (congrArg (hT m c) (a₁ := ix2 (colAt t k) (rowAt t p)) ?_)
  funext a
  apply Fin.ext
  match a with
  | ⟨0, _⟩ => show t.val % 11 * 512 + k.val = win0_6.index t 0 * 512 + 1 * k.val; rw [(idx t).2.2.2.2.2.2.1]; simp
  | ⟨1, _⟩ => show t.val / 11 * 512 + p.val = win0_6.index t 1 * 512 + 1 * p.val; rw [(idx t).2.2.2.2.2.2.1]; simp

/-- What the whole output array holds at the end. -/
theorem final_z (c : Dev nD) : (dats m 0 c).arrAt 7 cfg0.N = z m c := by
  refine (dats m 0 c).arrAt_eq_of_covers 7 _ (by decide +kernel) fun t hf y => ?_
  obtain ⟨p, q, rfl⟩ : ∃ (p : Fin 512) (q : Fin 2048), y = ix2 p q := ⟨y 0, y 1, eq_ix2 y⟩
  blk_simp
  rw [after0_7]
  refine (stored_z m c t ((flush0_7 t).mp hf) p q).trans (congrArg (z m c) ?_)
  funext a
  apply Fin.ext
  match a with
  | ⟨0, _⟩ => show t.val / 11 * 512 + p.val = win0_7.index t 0 * 512 + 1 * p.val; rw [(idx t).2.2.2.2.2.2.2.1]; simp
  | ⟨1, _⟩ => show q.val = win0_7.index t 1 * 2048 + 1 * q.val; rw [(idx t).2.2.2.2.2.2.2.1]; simp

/-- What the whole output array holds at the end. -/
theorem final_xn (c : Dev nD) : (dats m 0 c).arrAt 8 cfg0.N = xn m c := by
  refine (dats m 0 c).arrAt_eq_of_covers 8 _ (by decide +kernel) fun t hf y => ?_
  obtain ⟨p, q, rfl⟩ : ∃ (p : Fin 512) (q : Fin 2048), y = ix2 p q := ⟨y 0, y 1, eq_ix2 y⟩
  blk_simp
  rw [after0_8]
  refine (stored_xn m c t ((flush0_8 t).mp hf) p q).trans (congrArg (xn m c) ?_)
  funext a
  apply Fin.ext
  match a with
  | ⟨0, _⟩ => show t.val / 11 * 512 + p.val = win0_8.index t 0 * 512 + 1 * p.val; rw [(idx t).2.2.2.2.2.2.2.2]; simp
  | ⟨1, _⟩ => show q.val = win0_8.index t 1 * 2048 + 1 * q.val; rw [(idx t).2.2.2.2.2.2.2.2]; simp

/-! ### The reference -/

/-- The reference computes the same function. -/
theorem ref_hid (c : Dev nD) : Cert.Reference11Ideal.Read.val_main_v3 (F := Ideal) (gu m c) = fun i => hid m c (i 0) (i 1) := by
  funext i
  pointwise [Cert.Reference11Ideal.Read.val_main_v3, Cert.Reference11Ideal.Read.val_main_v2, Cert.Reference11Ideal.Read.val_main_v1, Cert.Reference11Ideal.Read.val_main_v0, Cert.Reference11Ideal.Read.val_main_call0_v0, Cert.Reference11Ideal.Read.val_main_call0_v1, Cert.Reference11Ideal.Read.val_main_call0_v2, Cert.Reference11Ideal.Read.val_main_call0_v3, Cert.Reference11Ideal.Read.val_main_call0_v4, Cert.Reference11Ideal.Read.val_main_call0_v5, Cert.Reference11Ideal.Read.val_main_call0_cst, Cert.Reference11Ideal.Read.val_main_call0_cst_0]
  rfl

/-- The reference computes the same function. -/
theorem ref_hT (c : Dev nD) : Cert.Reference11Ideal.Read.val_main_v11 (F := Ideal) (gu m c) = hT m c := by
  funext i
  pointwise [Cert.Reference11Ideal.Read.val_main_v11, Cert.Reference11Ideal.Read.val_main_v10]
  rw [ref_hid]
  rfl

/-- The reference computes the same function. -/
theorem ref_z (c : Dev nD) : Cert.Reference11Ideal.Read.val_main_v9 (F := Ideal) (gu m c) (x m c) (wd m c) = z m c := by
  funext i
  pointwise [Cert.Reference11Ideal.Read.val_main_v9, Cert.Reference11Ideal.Read.val_main_v8, Cert.Reference11Ideal.Read.val_main_v7, Cert.Reference11Ideal.Read.val_main_v6, Cert.Reference11Ideal.Read.val_main_v5, Cert.Reference11Ideal.Read.val_main_v4, Cert.Reference11Ideal.Read.val_main_cst, Cert.Reference11Ideal.Read.val_main_cst_0]
  rw [ref_hid]
  rfl

/-- The reference computes the same function. -/
theorem ref_xn (c : Dev nD) : Cert.Reference11Ideal.Read.val_main_v35 (F := Ideal) (gu m c) (x m c) (wd m c) (g m c) (b m c) = xn m c := by
  funext i
  pointwise [Cert.Reference11Ideal.Read.val_main_v35, Cert.Reference11Ideal.Read.val_main_v34, Cert.Reference11Ideal.Read.val_main_v33, Cert.Reference11Ideal.Read.val_main_v32, Cert.Reference11Ideal.Read.val_main_v31, Cert.Reference11Ideal.Read.val_main_v30, Cert.Reference11Ideal.Read.val_main_v29, Cert.Reference11Ideal.Read.val_main_v28, Cert.Reference11Ideal.Read.val_main_v27, Cert.Reference11Ideal.Read.val_main_v26, Cert.Reference11Ideal.Read.val_main_v25, Cert.Reference11Ideal.Read.val_main_v24, Cert.Reference11Ideal.Read.val_main_v23, Cert.Reference11Ideal.Read.val_main_v22, Cert.Reference11Ideal.Read.val_main_v21, Cert.Reference11Ideal.Read.val_main_v20, Cert.Reference11Ideal.Read.val_main_v19, Cert.Reference11Ideal.Read.val_main_v18, Cert.Reference11Ideal.Read.val_main_v17, Cert.Reference11Ideal.Read.val_main_v16, Cert.Reference11Ideal.Read.val_main_v15, Cert.Reference11Ideal.Read.val_main_v14, Cert.Reference11Ideal.Read.val_main_v13, Cert.Reference11Ideal.Read.val_main_v12, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5]
  rw [ref_z]
  conv_lhs => rw [eq_ix2 i]
  rfl

end Cert.Kernel11Ideal.FfnDown

open Idealize.ShloMosaic Idealize.SL.Sem in
/-- The kernel and the reference leave the same three arrays. -/
theorem Cert.Kernel11Ideal.FfnDown.algebraic : Cert.algebraic_Kernel11Ideal_Reference11Ideal := by
  open Cert.Kernel11Ideal.FfnDown in
  intro m g m' g' _ h
  refine ⟨fun c => hT m c, fun c => z m c, fun c => xn m c,
    (θ_run _ _ _).mono (fun r hr c => ?_) (Cert.Kernel11Ideal.Value.run_blocks m g),
    (θ_run _ _ _).mono (fun r hr c => ?_) (Cert.Reference11Ideal.Value.run m' g')⟩
  · obtain ⟨h0, h1, h2, hk⟩ := hr c
    exact ⟨h0.trans (final_hT m c), h1.trans (final_z m c), h2.trans (final_xn m c), hk⟩
  · obtain ⟨h0, h1, h2, hk⟩ := hr c
    obtain ⟨e0, e1, e2, e3, e4⟩ := h c
    refine ⟨h0.trans ?_, h1.trans ?_, h2.trans ((Cert.Reference11Ideal.Read.val_main_v35_eq m' c).trans ?_), hk⟩ <;> simp only [e0, e1, e2, e3, e4]
    · exact ref_hT m c
    · exact ref_z m c
    · exact ref_xn m c

end
-- ==== Proof.MixOutFwd.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Norm
public import proofs.«01_k».proof.Defs
public import Idealize.ShloMosaic.Lib.Pipeline.ValueKit
public import Idealize.ShloMosaic.Lib.Pointwise

@[expose] public section

set_option maxRecDepth 16384

noncomputable section

namespace Cert.Kernel12Ideal.MixOut

open Cert.Kernel12Ideal Cert.Kernel12Ideal.Gen Idealize.ShloMosaic Idealize.ShloMosaic.TcCoe Idealize.SL.Sem

variable (m : (ℓ : Loc nD τ sig) → Buf (Elt Ideal) ℓ)

/-- The mixer's output. -/
abbrev y (c : Dev nD) : S4096x2048.Idx → EReal := m ((c : Thread nD τ).loc main_arg0)
/-- The output projection's weights. -/
abbrev w (c : Dev nD) : S2048x2048.Idx → EReal := m ((c : Thread nD τ).loc main_arg1)
/-- The mixer's input. -/
abbrev x (c : Dev nD) : S4096x2048.Idx → EReal := m ((c : Thread nD τ).loc main_arg2)
/-- The norm's scale. -/
abbrev g (c : Dev nD) : S2048.Idx → EReal := m ((c : Thread nD τ).loc main_arg3)
/-- The norm's shift. -/
abbrev b (c : Dev nD) : S2048.Idx → EReal := m ((c : Thread nD τ).loc main_arg4)

/-- The residual connection. -/
def z (c : Dev nD) : S4096x2048.Idx → EReal := fun i =>
  Ideal.ofBits .f32 0x3F9837F0#32 * x m c i + ∑ k : Fin 2048, y m c (ix2 (i 0) k) * w m c (ix2 k (i 1))

/-- The norm of the residual connection. -/
def xn (c : Dev nD) : S4096x2048.Idx → EReal := fun i =>
  Norm.norm (fun k => z m c (ix2 (i 0) k)) (fun k => g m c (ix1 k)) (fun k => b m c (ix1 k)) (i 1)

/-- The norm, transposed. -/
def xnT (c : Dev nD) : S2048x4096.Idx → EReal := fun i => xn m c (ix2 (i 1) (i 0))

/-- Which block each window shows at each grid point. -/
theorem idx : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![t.val, 0] ∧ win0_7.index t = ![0, t.val] := by decide +kernel

/-- What the whole output array holds at the end. -/
theorem final_z (c : Dev nD) : (dats m 0 c).arrAt 5 cfg0.N = z m c := by
  refine (dats m 0 c).arrAt_eq_of_covers 5 _ (by decide +kernel) fun t hf y => ?_
  blk_simp
  rw [after0_5]
  frame_out
  unfold_payloads
  pointwise
  unfold z x MixOut.y w
  change @Eq EReal _ _
  blk_point [iblk, V, (idx t).1, (idx t).2.1, (idx t).2.2.1, (idx t).2.2.2.2.2.1]

/-- The array's row that row `p` of point `t`'s block is. -/
abbrev rowAt (t : Fin grid0.N) (p : Fin 256) : Fin 4096 :=
  ⟨t.val * 256 + p.val, by have ht : t.val < 16 := lt_of_lt_of_eq t.isLt N_0; have := p.isLt; omega⟩

/-- Point `t`'s block of the mixer's output. -/
abbrev yb (c : Dev nD) (t : Fin grid0.N) : S256x2048.Idx → EReal := iblk m c 0 t
/-- Point `t`'s block of the weights: all of them. -/
abbrev wb (c : Dev nD) (t : Fin grid0.N) : S2048x2048.Idx → EReal := iblk m c 1 t
/-- Point `t`'s block of the mixer's input. -/
abbrev xb (c : Dev nD) (t : Fin grid0.N) : S256x2048.Idx → EReal := iblk m c 2 t

/-- The residual connection of point `t`'s block is the array's rows. -/
theorem block_z (c : Dev nD) (t : Fin grid0.N) (p : Fin 256) (q : Fin 2048) :
    Ideal.ofBits .f32 0x3F9837F0#32 * xb m c t (ix2 p q) + ∑ k : Fin 2048, yb m c t (ix2 p k) * wb m c t (ix2 k q) = z m c (ix2 (rowAt t p) q) := by
  unfold z x MixOut.y w
  change @Eq EReal _ _
  blk_point [iblk, V, (idx t).1, (idx t).2.1, (idx t).2.2.1]

/-- What the window shows of its array, entry by entry. -/
theorem block_g (c : Dev nD) (t : Fin grid0.N) (q : Fin 2048) : @Eq EReal (iblk m c 3 t (ix2 0 q)) (g m c (ix1 q)) := by
  unfold g
  blk_point [iblk, V, (idx t).2.2.2.1]

/-- What the window shows of its array, entry by entry. -/
theorem block_b (c : Dev nD) (t : Fin grid0.N) (q : Fin 2048) : @Eq EReal (iblk m c 4 t (ix2 0 q)) (b m c (ix1 q)) := by
  unfold b
  blk_point [iblk, V, (idx t).2.2.2.2.1]

/-- The norm of row `p` of point `t`'s block. -/
theorem block_xn (c : Dev nD) (t : Fin grid0.N) (p : Fin 256) (q : Fin 2048) :
    Norm.norm (fun k => Ideal.ofBits .f32 0x3F9837F0#32 * xb m c t (ix2 p k) + ∑ k' : Fin 2048, yb m c t (ix2 p k') * wb m c t (ix2 k' k))
      (fun k => iblk m c 3 t (ix2 0 k)) (fun k => iblk m c 4 t (ix2 0 k)) q = xn m c (ix2 (rowAt t p) q) := by
  simp only [block_z, block_g, block_b]
  rfl

/-- What the whole output array holds at the end. -/
theorem final_xn (c : Dev nD) : (dats m 0 c).arrAt 6 cfg0.N = xn m c := by
  refine (dats m 0 c).arrAt_eq_of_covers 6 _ (by decide +kernel) fun t hf y => ?_
  obtain ⟨p, q, rfl⟩ : ∃ (p : Fin 256) (q : Fin 2048), y = ix2 p q := ⟨y 0, y 1, eq_ix2 y⟩
  blk_simp
  rw [after0_6]
  frame_out
  unfold_payloads
  pointwise
  refine (block_xn m c t p q).trans (congrArg (xn m c) ?_)
  funext a
  apply Fin.ext
  match a with
  | ⟨0, _⟩ => show t.val * 256 + p.val = win0_6.index t 0 * 256 + 1 * p.val; rw [(idx t).2.2.2.2.2.2.1]; simp
  | ⟨1, _⟩ => show q.val = win0_6.index t 1 * 2048 + 1 * q.val; rw [(idx t).2.2.2.2.2.2.1]; simp

/-- What the whole output array holds at the end. -/
theorem final_xnT (c : Dev nD) : (dats m 0 c).arrAt 7 cfg0.N = xnT m c := by
  refine (dats m 0 c).arrAt_eq_of_covers 7 _ (by decide +kernel) fun t hf y => ?_
  obtain ⟨q, p, rfl⟩ : ∃ (q : Fin 2048) (p : Fin 256), y = ix2 q p := ⟨y 0, y 1, eq_ix2 y⟩
  blk_simp
  rw [after0_7]
  frame_out
  unfold_payloads
  pointwise
  refine (block_xn m c t p q).trans (congrArg (xn m c) ?_)
  funext a
  apply Fin.ext
  match a with
  | ⟨0, _⟩ => show t.val * 256 + p.val = win0_7.index t 1 * 256 + 1 * p.val; rw [(idx t).2.2.2.2.2.2.2]; simp
  | ⟨1, _⟩ => show q.val = win0_7.index t 0 * 2048 + 1 * q.val; rw [(idx t).2.2.2.2.2.2.2]; simp

/-- The reference computes the same function. -/
theorem ref_z (c : Dev nD) : Cert.Reference12Ideal.Read.val_main_v3 (F := Ideal) (y m c) (w m c) (x m c) = z m c := by
  funext i
  pointwise [Cert.Reference12Ideal.Read.val_main_v3, Cert.Reference12Ideal.Read.val_main_v2, Cert.Reference12Ideal.Read.val_main_v1, Cert.Reference12Ideal.Read.val_main_v0, Cert.Reference12Ideal.Read.val_main_cst]
  rfl

/-- The reference computes the same function. -/
theorem ref_xn (c : Dev nD) : Cert.Reference12Ideal.Read.val_main_v27 (F := Ideal) (y m c) (w m c) (x m c) (g m c) (b m c) = xn m c := by
  funext i
  pointwise [Cert.Reference12Ideal.Read.val_main_v27, Cert.Reference12Ideal.Read.val_main_v26, Cert.Reference12Ideal.Read.val_main_v25, Cert.Reference12Ideal.Read.val_main_v24, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_v16, Cert.Reference12Ideal.Read.val_main_v15, Cert.Reference12Ideal.Read.val_main_v14, Cert.Reference12Ideal.Read.val_main_v13, Cert.Reference12Ideal.Read.val_main_v12, Cert.Reference12Ideal.Read.val_main_v11, Cert.Reference12Ideal.Read.val_main_v10, Cert.Reference12Ideal.Read.val_main_v9, Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4]
  rw [ref_z]
  conv_lhs => rw [eq_ix2 i]
  rfl

/-- The reference computes the same function. -/
theorem ref_xnT (c : Dev nD) : Cert.Reference12Ideal.Read.val_main_v29 (F := Ideal) (y m c) (w m c) (x m c) (g m c) (b m c) = xnT m c := by
  funext i
  pointwise [Cert.Reference12Ideal.Read.val_main_v29, Cert.Reference12Ideal.Read.val_main_v28]
  rw [ref_xn]
  rfl

end Cert.Kernel12Ideal.MixOut

open Idealize.ShloMosaic Idealize.SL.Sem in
/-- The kernel and the reference leave the same three arrays. -/
theorem Cert.Kernel12Ideal.MixOut.algebraic : Cert.algebraic_Kernel12Ideal_Reference12Ideal := by
  open Cert.Kernel12Ideal.MixOut in
  intro m g m' g' _ h
  refine ⟨fun c => z m c, fun c => xn m c, fun c => xnT m c,
    (θ_run _ _ _).mono (fun r hr c => ?_) (Cert.Kernel12Ideal.Value.run_blocks m g),
    (θ_run _ _ _).mono (fun r hr c => ?_) (Cert.Reference12Ideal.Value.run m' g')⟩
  · obtain ⟨h0, h1, h2, hk⟩ := hr c
    exact ⟨h0.trans (final_z m c), h1.trans (final_xn m c), h2.trans (final_xnT m c), hk⟩
  · obtain ⟨h0, h1, h2, hk⟩ := hr c
    obtain ⟨e0, e1, e2, e3, e4⟩ := h c
    refine ⟨h0.trans ?_, h1.trans ?_, h2.trans ?_, hk⟩ <;> simp only [e0, e1, e2, e3, e4]
    · exact ref_z m c
    · exact ref_xn m c
    · exact ref_xnT m c

end
-- ==== Proof.MixIn.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Pipeline.ValueKit
public import Idealize.ShloMosaic.Lib.Pointwise

@[expose] public section

set_option maxRecDepth 16384

noncomputable section

namespace Cert.Kernel13Ideal.MixIn

open Cert.Kernel13Ideal Cert.Kernel13Ideal.Gen Idealize.ShloMosaic Idealize.ShloMosaic.TcCoe Idealize.SL.Sem

variable (m : (ℓ : Loc nD τ sig) → Buf (Elt Ideal) ℓ)

/-- The mixer's input. -/
abbrev x (c : Dev nD) : S4096x2048.Idx → EReal := m ((c : Thread nD τ).loc main_arg0)
/-- The input projection's weights. -/
abbrev w (c : Dev nD) : S2048x4096.Idx → EReal := m ((c : Thread nD τ).loc main_arg1)

/-- The projection. -/
def G (c : Dev nD) : S4096x4096.Idx → EReal := fun i => ∑ k : Fin 2048, x m c (ix2 (i 0) k) * w m c (ix2 k (i 1))

/-- Which block each window shows at each grid point. -/
theorem idx : ∀ t : Fin grid0.N, win0_0.index t = ![t.val / 4, 0] ∧ win0_1.index t = ![0, t.val % 4] ∧ win0_2.index t = ![t.val / 4, t.val % 4] := by
  decide +kernel

/-- The carried scratch holds the point's rows of the input: the first of a run of four stores them, the others keep them. -/
theorem scratch (c : Dev nD) : ∀ (n : ℕ) (h : n < cfg0.N) (y : S512x2048.Idx), @Eq EReal ((outsAt0 m c n h).2 y) (iblk m c 0 ⟨n, h⟩ y) := by
  intro n
  induction n with
  | zero =>
    intro h y
    rw [outsAt0_A m c ⟨0, h⟩ rfl]
    frame_out
    unfold_payloads
    pointwise
  | succ n ih =>
    intro h y
    by_cases h0 : (n + 1) % 4 = 0
    · rw [outsAt0_A m c ⟨n + 1, h⟩ h0]
      frame_out
      unfold_payloads
      pointwise
    · rw [outsAt0_B m c ⟨n + 1, h⟩ h0]
      refine (ih (Nat.lt_of_succ_lt h) y).trans ?_
      have e : win0_0.index ⟨n + 1, h⟩ = win0_0.index ⟨n, Nat.lt_of_succ_lt h⟩ := by
        rw [(idx _).1, (idx ⟨n, _⟩).1]
        congr 1
        dsimp only
        omega
      blk_point [iblk, V, e]

/-- Reading back what was stored over the whole scratch array. -/
theorem read_scratch (h : scM0_0.IsWhole) (v : Vec Ideal S512x2048 .bf16) : View.read (Elt Ideal) (View.whole cc0_scratch0) (h.unread v) = v :=
  h.read_unread v

/-- What the whole output array holds at the end. -/
theorem final (c : Dev nD) : (dats m 0 c).arrAt 2 cfg0.N = G m c := by
  refine (dats m 0 c).arrAt_eq_of_covers 2 _ (by decide +kernel) fun t hf y => ?_
  blk_simp
  rw [after0_2]
  by_cases h0 : t.val % 4 = 0
  · rw [outsAt0_A m c t h0]
    frame_out
    unfold_payloads
    pointwise
    unfold G x w
    change @Eq EReal _ _
    blk_point [iblk, V, (idx t).1, (idx t).2.1, (idx t).2.2]
  · have hs : (outsAt0 m c (t.val - 1) (Nat.lt_of_le_of_lt (Nat.sub_le _ _) t.isLt)).2 = fun y => (iblk m c 0 t y : EReal) := by
      funext y
      have hs := scratch m c t.val t.isLt y
      rw [outsAt0_B m c t h0] at hs
      exact hs
    rw [outsAt0_B m c t h0, hs]
    frame_out
    unfold_payloads
    pointwise
    simp only [read_scratch]
    unfold G x w
    change @Eq EReal _ _
    blk_point [iblk, V, (idx t).1, (idx t).2.1, (idx t).2.2]

/-- The reference computes the same function. -/
theorem ref (c : Dev nD) : Cert.Reference13Ideal.Read.val_main_v0 (F := Ideal) (x m c) (w m c) = G m c := by
  funext i
  pointwise [Cert.Reference13Ideal.Read.val_main_v0]
  rfl

end Cert.Kernel13Ideal.MixIn

open Idealize.ShloMosaic Idealize.SL.Sem in
/-- The kernel and the reference leave the same array. -/
theorem Cert.Kernel13Ideal.MixIn.algebraic : Cert.algebraic_Kernel13Ideal_Reference13Ideal := by
  intro m g m' g' _ h
  refine ⟨fun c => Cert.Kernel13Ideal.MixIn.G m c, (θ_run _ _ _).mono (fun r hr c => ?_) (Cert.Kernel13Ideal.Value.run_blocks m g),
    (θ_run _ _ _).mono (fun r hr c => ?_) (Cert.Reference13Ideal.Value.run m' g')⟩
  · obtain ⟨h0, h1⟩ := hr c
    exact ⟨h0.trans (Cert.Kernel13Ideal.MixIn.final m c), h1⟩
  · obtain ⟨h0, h1⟩ := hr c
    refine ⟨h0.trans ?_, h1⟩
    rw [(h c).1, (h c).2]
    exact Cert.Kernel13Ideal.MixIn.ref m c

end
-- ==== Proof.LossFwd.lean ====
module

public import proofs.«01_k».proof.Proof.Gen.Kernel14Ideal.Value
public import proofs.«01_k».proof.Proof.Norm
public import proofs.«01_k».proof.Proof.Act
public import Idealize.ShloMosaic.Lib.Pipeline.ValueKit
public import Idealize.ShloMosaic.Lib.Pointwise

@[expose] public section

set_option maxRecDepth 16384

noncomputable section

/-! The second feed-forward block's forward call, up to the residual connection: the gate's and the up projection's results, the hidden
    layer, and the accumulated down projection. -/

namespace Cert.Kernel14Ideal.Loss

open Cert.Kernel14Ideal Cert.Kernel14Ideal.Gen Idealize.ShloMosaic Idealize.ShloMosaic.TcCoe Idealize.SL.Sem

variable (m : (ℓ : Loc nD τ sig) → Buf (Elt Ideal) ℓ)

/-- The layer's input. -/
abbrev x (c : Dev nD) : S4096x2048.Idx → EReal := m ((c : Thread nD τ).loc main_arg0)
/-- The gate's and the up projection's weights, side by side. -/
abbrev wgu (c : Dev nD) : S2048x11264.Idx → EReal := m ((c : Thread nD τ).loc main_arg1)
/-- The down projection's weights. -/
abbrev wd (c : Dev nD) : S5632x2048.Idx → EReal := m ((c : Thread nD τ).loc main_arg2)
/-- The norm's scale. -/
abbrev g (c : Dev nD) : S2048.Idx → EReal := m ((c : Thread nD τ).loc main_arg3)
/-- The norm's shift. -/
abbrev b (c : Dev nD) : S2048.Idx → EReal := m ((c : Thread nD τ).loc main_arg4)
/-- The target of the loss. -/
abbrev target (c : Dev nD) : S4096x2048.Idx → EReal := m ((c : Thread nD τ).loc main_arg5)

/-- The product of the input with column `q` of the gate's and the up projection's weights. -/
def gu (c : Dev nD) (r : Fin 4096) (q : Fin 11264) : EReal := ∑ k : Fin 2048, x m c (ix2 r k) * wgu m c (ix2 k q)

/-- The gate's result. -/
def gate (c : Dev nD) (r : Fin 4096) (k : Fin 5632) : EReal := gu m c r ⟨k.val, by omega⟩

/-- The up projection's result. -/
def up (c : Dev nD) (r : Fin 4096) (k : Fin 5632) : EReal := gu m c r ⟨5632 + k.val, by omega⟩

/-- The hidden layer. -/
def hid (c : Dev nD) (r : Fin 4096) (k : Fin 5632) : EReal := Act.swiglu (gate m c r k) (up m c r k)

/-- The gate's result as an array. -/
def gateA (c : Dev nD) : S4096x5632.Idx → EReal := fun i => gate m c (i 0) (i 1)

/-- The up projection's result as an array. -/
def upA (c : Dev nD) : S4096x5632.Idx → EReal := fun i => up m c (i 0) (i 1)

/-- The hidden layer, transposed. -/
def hT (c : Dev nD) : S5632x4096.Idx → EReal := fun i => hid m c (i 1) (i 0)

/-- The residual connection. -/
def z (c : Dev nD) (r : Fin 4096) (q : Fin 2048) : EReal :=
  Ideal.ofBits .f32 0x3F9837F0#32 * x m c (ix2 r q) + Ideal.ofBits .f32 0x3F000000#32 * ∑ k : Fin 5632, hid m c r k * wd m c (ix2 k q)

/-! ### The blocks -/

/-- Which block each input window shows at each grid point. -/
theorem idx : ∀ t : Fin grid0.N, win0_0.index t = ![t.val / 11, 0] ∧ win0_1.index t = ![0, t.val % 11]
    ∧ win0_2.index t = ![0, t.val % 11 + 11] ∧ win0_3.index t = ![t.val % 11, 0] ∧ win0_4.index t = ![0, 0] ∧ win0_5.index t = ![0, 0]
    ∧ win0_6.index t = ![t.val / 11, 0] := by
  decide +kernel

/-- Which block each output window shows at each grid point. -/
theorem idxOut : ∀ t : Fin grid0.N, win0_7.index t = ![t.val / 11, t.val % 11] ∧ win0_8.index t = ![t.val / 11, t.val % 11]
    ∧ win0_9.index t = ![t.val % 11, t.val / 11] ∧ win0_10.index t = ![t.val / 11, 0] ∧ win0_11.index t = ![t.val / 11, 0]
    ∧ win0_12.index t = ![0, 0] ∧ win0_13.index t = ![0, 0] ∧ win0_14.index t = ![0, 0] := by
  decide +kernel

/-- The array's row that row `p` of point `t`'s block is. -/
abbrev rowAt (t : Fin grid0.N) (p : Fin 512) : Fin 4096 :=
  ⟨t.val / 11 * 512 + p.val, by have ht : t.val < 88 := lt_of_lt_of_eq t.isLt N_0; have := p.isLt; omega⟩

/-- The hidden feature that column `k` of point `t`'s block is. -/
abbrev colAt (t : Fin grid0.N) (k : Fin 512) : Fin 5632 :=
  ⟨t.val % 11 * 512 + k.val, by have := k.isLt; omega⟩

/-- What the window shows of its array, entry by entry. -/
theorem block_x (c : Dev nD) (t : Fin grid0.N) (p : Fin 512) (k : Fin 2048) :
    @Eq EReal (iblk m c 0 t (ix2 p k)) (x m c (ix2 (rowAt t p) k)) := by
  unfold x
  blk_point [iblk, V, (idx t).1]

/-- The weights the call is given: rounding changes no value. -/
theorem V_wgu (c : Dev nD) : @Eq (S2048x11264.Idx → EReal) (V m c main_v0) (wgu m c) := by
  funext i
  entry_read
  pointwise

/-- The down projection's weights likewise. -/
theorem V_wd (c : Dev nD) : @Eq (S5632x2048.Idx → EReal) (V m c main_v1) (wd m c) := by
  funext i
  entry_read
  pointwise

/-- The scale as a row. -/
theorem V_g (c : Dev nD) : @Eq (S1x2048.Idx → EReal) (V m c main_v2) (fun i => g m c (ix1 (i 1))) := by
  funext i
  entry_read
  pointwise

/-- The shift as a row. -/
theorem V_b (c : Dev nD) : @Eq (S1x2048.Idx → EReal) (V m c main_v3) (fun i => b m c (ix1 (i 1))) := by
  funext i
  entry_read
  pointwise

/-- What the window shows of its array, entry by entry. -/
theorem block_wg (c : Dev nD) (t : Fin grid0.N) (k : Fin 2048) (q : Fin 512) :
    @Eq EReal (iblk m c 1 t (ix2 k q)) (wgu m c (ix2 k ⟨(colAt t q).val, by omega⟩)) := by
  refine Eq.trans (b := V m c main_v0 (ix2 k ⟨(colAt t q).val, by omega⟩)) ?_ (congrFun (V_wgu m c) _)
  blk_point [iblk, (idx t).2.1]

/-- What the window shows of its array, entry by entry. -/
theorem block_wu (c : Dev nD) (t : Fin grid0.N) (k : Fin 2048) (q : Fin 512) :
    @Eq EReal (iblk m c 2 t (ix2 k q)) (wgu m c (ix2 k ⟨5632 + (colAt t q).val, by omega⟩)) := by
  refine Eq.trans (b := V m c main_v0 (ix2 k ⟨5632 + (colAt t q).val, by omega⟩)) ?_ (congrFun (V_wgu m c) _)
  blk_point [iblk, (idx t).2.2.1]

/-- What the window shows of its array, entry by entry. -/
theorem block_wd (c : Dev nD) (t : Fin grid0.N) (k : Fin 512) (q : Fin 2048) :
    @Eq EReal (iblk m c 3 t (ix2 k q)) (wd m c (ix2 (colAt t k) q)) := by
  refine Eq.trans (b := V m c main_v1 (ix2 (colAt t k) q)) ?_ (congrFun (V_wd m c) _)
  blk_point [iblk, (idx t).2.2.2.1]

/-- What the window shows of its array, entry by entry. -/
theorem block_g (c : Dev nD) (t : Fin grid0.N) (q : Fin 2048) : @Eq EReal (iblk m c 4 t (ix2 0 q)) (g m c (ix1 q)) := by
  refine Eq.trans (b := V m c main_v2 (ix2 0 q)) ?_ (congrFun (V_g m c) _)
  blk_point [iblk, (idx t).2.2.2.2.1]

/-- What the window shows of its array, entry by entry. -/
theorem block_b (c : Dev nD) (t : Fin grid0.N) (q : Fin 2048) : @Eq EReal (iblk m c 5 t (ix2 0 q)) (b m c (ix1 q)) := by
  refine Eq.trans (b := V m c main_v3 (ix2 0 q)) ?_ (congrFun (V_b m c) _)
  blk_point [iblk, (idx t).2.2.2.2.2.1]

/-- What the window shows of its array, entry by entry. -/
theorem block_target (c : Dev nD) (t : Fin grid0.N) (p : Fin 512) (q : Fin 2048) :
    @Eq EReal (iblk m c 6 t (ix2 p q)) (target m c (ix2 (rowAt t p) q)) := by
  unfold target
  blk_point [iblk, V, (idx t).2.2.2.2.2.2]

/-- Reading back what was stored over the whole accumulator. -/
theorem read_acc (h : scM0_1.IsWhole) (v : Vec Ideal S512x2048 .f32) : View.read (Elt Ideal) (View.whole cc0_scratch1) (h.unread v) = v :=
  h.read_unread v

/-- Reading back what was stored over the whole copy of the input's rows. -/
theorem read_copy (h : scM0_0.IsWhole) (v : Vec Ideal S512x2048 .bf16) : View.read (Elt Ideal) (View.whole cc0_scratch0) (h.unread v) = v :=
  h.read_unread v

/-- The kept copy of the input's rows. -/
theorem copy (c : Dev nD) : ∀ (n : ℕ) (h : n < cfg0.N) (p : Fin 512) (k : Fin 2048),
    @Eq EReal ((outsAt0 m c n h).2.2.2.2.2.2.2.2.1 (ix2 p k)) (x m c (ix2 (rowAt ⟨n, h⟩ p) k)) := by
  intro n
  induction n with
  | zero =>
    intro h p k
    rw [outsAt0_A m c ⟨0, h⟩ rfl rfl (by show ¬ 0 % 11 = 10; decide)]
    frame_out
    unfold_payloads
    pointwise
    exact block_x m c _ p k
  | succ n ih =>
    intro h p k
    by_cases h0 : (n + 1) % 11 = 0
    · by_cases h1 : (n + 1) % 88 = 0
      · rw [outsAt0_A m c ⟨n + 1, h⟩ h0 h1 (by dsimp only; omega)]
        frame_out
        unfold_payloads
        pointwise
        exact block_x m c _ p k
      · rw [outsAt0_D m c ⟨n + 1, h⟩ h0 h1 (by dsimp only; omega)]
        frame_out
        unfold_payloads
        pointwise
        exact block_x m c _ p k
    · have e : rowAt ⟨n, Nat.lt_of_succ_lt h⟩ p = rowAt ⟨n + 1, h⟩ p := by
        apply Fin.ext
        dsimp only [rowAt]
        omega
      by_cases h2 : (n + 1) % 11 = 10
      · rw [outsAt0_C m c ⟨n + 1, h⟩ h0 (by dsimp only; omega) h2]
        exact (ih (Nat.lt_of_succ_lt h) p k).trans (congrArg (fun r => x m c (ix2 r k)) e)
      · rw [outsAt0_B m c ⟨n + 1, h⟩ h0 (by dsimp only; omega) h2]
        exact (ih (Nat.lt_of_succ_lt h) p k).trans (congrArg (fun r => x m c (ix2 r k)) e)

/-- At a point that does not start a run, the copy made before it is of its own rows. -/
theorem copied (c : Dev nD) (t : Fin cfg0.N) (h0 : ¬t.val % 11 = 0) (p : Fin 512) (k : Fin 2048) :
    @Eq EReal ((outsAt0 m c (t.val - 1) (Nat.lt_of_le_of_lt (Nat.sub_le _ _) t.isLt)).2.2.2.2.2.2.2.2.1 (ix2 p k)) (x m c (ix2 (rowAt t p) k)) := by
  refine (copy m c _ _ p k).trans (congrArg (fun r => x m c (ix2 r k)) (Fin.ext ?_))
  dsimp only [rowAt]
  omega

/-- Every point stores its block of the gate's result. -/
theorem stored_gate (c : Dev nD) (t : Fin cfg0.N) (p q : Fin 512) :
    @Eq EReal ((outsAt0 m c t.val t.isLt).1 (ix2 p q)) (gate m c (rowAt t p) (colAt t q)) := by
  by_cases h0 : t.val % 11 = 0
  · by_cases h1 : t.val % 88 = 0
    · rw [outsAt0_A m c t h0 h1 (by omega)]
      frame_out
      unfold_payloads
      pointwise
      simp only [block_x, block_wg]
      rfl
    · rw [outsAt0_D m c t h0 h1 (by omega)]
      frame_out
      unfold_payloads
      pointwise
      simp only [block_x, block_wg]
      rfl
  by_cases h2 : t.val % 11 = 10
  · rw [outsAt0_C m c t h0 (by omega) h2]
    frame_out
    unfold_payloads
    pointwise
    simp only [read_copy, copied m c t h0, block_wg]
    rfl
  · rw [outsAt0_B m c t h0 (by omega) h2]
    frame_out
    unfold_payloads
    pointwise
    simp only [read_copy, copied m c t h0, block_wg]
    rfl

/-- Every point stores its block of the up projection's result. -/
theorem stored_up (c : Dev nD) (t : Fin cfg0.N) (p q : Fin 512) :
    @Eq EReal ((outsAt0 m c t.val t.isLt).2.1 (ix2 p q)) (up m c (rowAt t p) (colAt t q)) := by
  by_cases h0 : t.val % 11 = 0
  · by_cases h1 : t.val % 88 = 0
    · rw [outsAt0_A m c t h0 h1 (by omega)]
      frame_out
      unfold_payloads
      pointwise
      simp only [block_x, block_wu]
      rfl
    · rw [outsAt0_D m c t h0 h1 (by omega)]
      frame_out
      unfold_payloads
      pointwise
      simp only [block_x, block_wu]
      rfl
  by_cases h2 : t.val % 11 = 10
  · rw [outsAt0_C m c t h0 (by omega) h2]
    frame_out
    unfold_payloads
    pointwise
    simp only [read_copy, copied m c t h0, block_wu]
    rfl
  · rw [outsAt0_B m c t h0 (by omega) h2]
    frame_out
    unfold_payloads
    pointwise
    simp only [read_copy, copied m c t h0, block_wu]
    rfl
/-- Every point stores its block of the hidden layer. -/
theorem stored_h (c : Dev nD) (t : Fin cfg0.N) (k p : Fin 512) :
    @Eq EReal ((outsAt0 m c t.val t.isLt).2.2.1 (ix2 k p)) (hid m c (rowAt t p) (colAt t k)) := by
  by_cases h0 : t.val % 11 = 0
  · by_cases h1 : t.val % 88 = 0
    · rw [outsAt0_A m c t h0 h1 (by omega)]
      frame_out
      unfold_payloads
      pointwise
      simp only [block_x, block_wg, block_wu, Act.sig_of_sub]
      rfl
    · rw [outsAt0_D m c t h0 h1 (by omega)]
      frame_out
      unfold_payloads
      pointwise
      simp only [block_x, block_wg, block_wu, Act.sig_of_sub]
      rfl
  by_cases h2 : t.val % 11 = 10
  · rw [outsAt0_C m c t h0 (by omega) h2]
    frame_out
    unfold_payloads
    pointwise
    simp only [read_copy, copied m c t h0, block_wg, block_wu, Act.sig_of_sub]
    rfl
  · rw [outsAt0_B m c t h0 (by omega) h2]
    frame_out
    unfold_payloads
    pointwise
    simp only [read_copy, copied m c t h0, block_wg, block_wu, Act.sig_of_sub]
    rfl
/-- What a point adds to the accumulator: its hidden features' part of the product. -/
def part (c : Dev nD) (p : Fin 512) (q : Fin 2048) (t : Fin cfg0.N) : EReal :=
  ∑ k : Fin 512, hid m c (rowAt t p) (colAt t k) * wd m c (ix2 (colAt t k) q)

/-- After the last point of a run of eleven the accumulator holds the whole product. -/
theorem product (c : Dev nD) (t : Fin cfg0.N) (ht : t.val % 11 = 10) (p : Fin 512) (q : Fin 2048) :
    @Eq EReal ((outsAt0 m c t.val t.isLt).2.2.2.2.2.2.2.2.2 (ix2 p q)) (∑ k : Fin 5632, hid m c (rowAt t p) k * wd m c (ix2 k q)) := by
  refine (Pipeline.eq_sum_fin_of_reset_step_of_flush (M := EReal) (fun n h => (outsAt0 m c n h).2.2.2.2.2.2.2.2.2 (ix2 p q)) 11 0
    (part m c p q) (fun s h0 => ?_) (fun s h0 => ?_) t ht).trans ?_
  · by_cases h1 : s.val % 88 = 0
    · rw [outsAt0_A m c s h0 h1 (by omega), zero_add]
      frame_out
      unfold_payloads
      pointwise
      simp only [block_x, block_wg, block_wu, block_wd, Act.sig_of_sub]
      rfl
    · rw [outsAt0_D m c s h0 h1 (by omega), zero_add]
      frame_out
      unfold_payloads
      pointwise
      simp only [block_x, block_wg, block_wu, block_wd, Act.sig_of_sub]
      rfl
  · by_cases h2 : s.val % 11 = 10
    · rw [outsAt0_C m c s h0 (by omega) h2]
      frame_out
      unfold_payloads
      pointwise
      simp only [read_acc, read_copy, copied m c s h0, block_wg, block_wu, block_wd, Act.sig_of_sub]
      rfl
    · rw [outsAt0_B m c s h0 (by omega) h2]
      frame_out
      unfold_payloads
      pointwise
      simp only [read_acc, read_copy, copied m c s h0, block_wg, block_wu, block_wd, Act.sig_of_sub]
      rfl
  · rw [zero_add]
    refine Fin.sum_mul_add_congr (n := 512) fun s k hl => ?_
    have ht : t.val < 88 := lt_of_lt_of_eq t.isLt N_0
    have e1 : (11 * (t.val / 11) + s.val) / 11 = t.val / 11 := by have := s.isLt; omega
    have e2 : (11 * (t.val / 11) + s.val) % 11 = s.val := by have := s.isLt; omega
    simp only [rowAt, colAt, e1, e2]

/-! ### The arrays of this part -/

/-- What the whole output array holds at the end. -/
theorem final_gateA (c : Dev nD) : (dats m 0 c).arrAt 7 cfg0.N = gateA m c := by
  refine (dats m 0 c).arrAt_eq_of_covers 7 _ (by decide +kernel) fun t hf y => ?_
  obtain ⟨p, q, rfl⟩ : ∃ (p q : Fin 512), y = ix2 p q := ⟨y 0, y 1, eq_ix2 y⟩
  blk_simp
  rw [after0_7]
  refine (stored_gate m c t p q).trans (congrArg (gateA m c) (a₁ := ix2 (rowAt t p) (colAt t q)) ?_)
  funext a
  apply Fin.ext
  match a with
  | ⟨0, _⟩ => show t.val / 11 * 512 + p.val = win0_7.index t 0 * 512 + 1 * p.val; rw [(idxOut t).1]; simp
  | ⟨1, _⟩ => show t.val % 11 * 512 + q.val = win0_7.index t 1 * 512 + 1 * q.val; rw [(idxOut t).1]; simp

/-- What the whole output array holds at the end. -/
theorem final_upA (c : Dev nD) : (dats m 0 c).arrAt 8 cfg0.N = upA m c := by
  refine (dats m 0 c).arrAt_eq_of_covers 8 _ (by decide +kernel) fun t hf y => ?_
  obtain ⟨p, q, rfl⟩ : ∃ (p q : Fin 512), y = ix2 p q := ⟨y 0, y 1, eq_ix2 y⟩
  blk_simp
  rw [after0_8]
  refine (stored_up m c t p q).trans (congrArg (upA m c) (a₁ := ix2 (rowAt t p) (colAt t q)) ?_)
  funext a
  apply Fin.ext
  match a with
  | ⟨0, _⟩ => show t.val / 11 * 512 + p.val = win0_8.index t 0 * 512 + 1 * p.val; rw [(idxOut t).2.1]; simp
  | ⟨1, _⟩ => show t.val % 11 * 512 + q.val = win0_8.index t 1 * 512 + 1 * q.val; rw [(idxOut t).2.1]; simp

/-- What the whole output array holds at the end. -/
theorem final_hT (c : Dev nD) : (dats m 0 c).arrAt 9 cfg0.N = hT m c := by
  refine (dats m 0 c).arrAt_eq_of_covers 9 _ (by decide +kernel) fun t hf y => ?_
  obtain ⟨k, p, rfl⟩ : ∃ (k p : Fin 512), y = ix2 k p := ⟨y 0, y 1, eq_ix2 y⟩
  blk_simp
  rw [after0_9]
  refine (stored_h m c t k p).trans (congrArg (hT m c) (a₁ := ix2 (colAt t k) (rowAt t p)) ?_)
  funext a
  apply Fin.ext
  match a with
  | ⟨0, _⟩ => show t.val % 11 * 512 + k.val = win0_9.index t 0 * 512 + 1 * k.val; rw [(idxOut t).2.2.1]; simp
  | ⟨1, _⟩ => show t.val / 11 * 512 + p.val = win0_9.index t 1 * 512 + 1 * p.val; rw [(idxOut t).2.2.1]; simp

end Cert.Kernel14Ideal.Loss

end
-- ==== Proof.NormBack.lean ====
module

public import proofs.«01_k».proof.Proof.Norm
public import proofs.«01_k».proof.Proof.Reals

@[expose] public section

noncomputable section

/-! The gradient of the layer norm of one row of 2048 real entries: the closed form, and what differentiating the norm's formula step by
    step gives. -/

namespace Cert.Norm

open Idealize.ShloMosaic Cert.Reals

/-- A row's normalised entry, before scale and shift. -/
def xhat (x : Fin 2048 → EReal) (j : Fin 2048) : EReal := centred x j * scale x

/-- The gradient with respect to the row's entry `j`, from the gradient `d` of the normalised entries. -/
def back (x d : Fin 2048 → EReal) (j : Fin 2048) : EReal :=
  scale x * (d j - mean d - xhat x j * mean (fun k => d k * xhat x k))

/-- The variance and the small constant under the root. -/
def spread (x : Fin 2048 → EReal) : EReal := mean (fun k => centred x k * centred x k) + Ideal.ofBits .f32 0x3727C5AC#32

/-- The part of the gradient that comes through the variance. -/
def viaSpread (x d : Fin 2048 → EReal) (j : Fin 2048) : EReal :=
  Ideal.div ((∑ k, centred x k * d k) * (Ideal.ofBits .f32 0xBF000000#32 * Ideal.div (scale x) (spread x))) (Ideal.ofBits .f32 0x45000000#32)
    * (Ideal.ofBits .f32 0x40000000#32 * centred x j)

/-- The gradient as the steps of the norm's formula give it. -/
def steps (x d : Fin 2048 → EReal) (j : Fin 2048) : EReal :=
  d j * scale x + viaSpread x d j
    + Ideal.div (∑ k, -(d k * scale x) + ∑ k, -viaSpread x d k) (Ideal.ofBits .f32 0x45000000#32)

/-- The pattern of 2048. -/
theorem bits_2048 : Ideal.ofBits .f32 0x45000000#32 = ((2048 : ℝ) : EReal) := by
  simp [Ideal.ofBits, Ideal.ieee, -EReal.coe_mul]; norm_num

/-- The pattern of two. -/
theorem bits_two : Ideal.ofBits .f32 0x40000000#32 = ((2 : ℝ) : EReal) := by
  simp [Ideal.ofBits, Ideal.ieee, -EReal.coe_mul]; norm_num

/-- The pattern of one half. -/
theorem bits_half : Ideal.ofBits .f32 0x3F000000#32 = ((1 / 2 : ℝ) : EReal) := by
  simp [Ideal.ofBits, Ideal.ieee, -EReal.coe_mul]; norm_num

/-- The pattern of minus one half. -/
theorem bits_neg_half : Ideal.ofBits .f32 0xBF000000#32 = ((-(1 / 2) : ℝ) : EReal) := by
  simp [Ideal.ofBits, Ideal.ieee, -EReal.coe_mul, -EReal.coe_neg]; norm_num

/-- The pattern of one part in 2048. -/
theorem bits_part : Ideal.ofBits .f32 0x3A000000#32 = ((1 / 2048 : ℝ) : EReal) := by
  simp [Ideal.ofBits, Ideal.ieee, -EReal.coe_mul]; norm_num

/-- The norm's small constant is positive. -/
theorem bits_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- A sum of real numbers is the sum of the reals. -/
theorem sum_coe {ι : Type} (s : Finset ι) (f : ι → ℝ) : (∑ i ∈ s, (f i : EReal)) = ((∑ i ∈ s, f i : ℝ) : EReal) :=
  (map_sum (⟨⟨Real.toEReal, EReal.coe_zero⟩, EReal.coe_add⟩ : ℝ →+ EReal) f s).symm

/-- The mean of a real row. -/
theorem mean_coe (f : Fin 2048 → ℝ) : mean (fun k => (f k : EReal)) = (((∑ k, f k) / 2048 : ℝ) : EReal) := by
  unfold mean
  rw [sum_coe, bits_2048, Ideal.div_coe (by norm_num), ← EReal.coe_mul]
  congr 1
  ring

/-- A real row's centred entries, spread and scale are real, the scale's square is one over the spread, and the centred entries sum to zero. -/
theorem row_coe (X : Fin 2048 → ℝ) : ∃ (C : Fin 2048 → ℝ) (v s : ℝ), (∀ j, centred (fun k => (X k : EReal)) j = (C j : EReal))
    ∧ spread (fun k => (X k : EReal)) = (v : EReal) ∧ scale (fun k => (X k : EReal)) = (s : EReal) ∧ v ≠ 0 ∧ s * s * v = 1 ∧ ∑ k, C k = 0 := by
  have hc : ∀ j, centred (fun k => (X k : EReal)) j = ((X j - (∑ k, X k) / 2048 : ℝ) : EReal) := fun j => by
    unfold centred
    rw [mean_coe, ← EReal.coe_sub]
  obtain ⟨e, he, hb⟩ := bits_eps
  have hv : spread (fun k => (X k : EReal))
      = (((∑ k, (X k - (∑ k, X k) / 2048) * (X k - (∑ k, X k) / 2048)) / 2048 + e : ℝ) : EReal) := by
    unfold spread
    simp only [hc, ← EReal.coe_mul]
    rw [mean_coe, hb, ← EReal.coe_add]
  have hp : 0 < (∑ k, (X k - (∑ k, X k) / 2048) * (X k - (∑ k, X k) / 2048)) / 2048 + e :=
    add_pos_of_nonneg_of_pos (div_nonneg (Finset.sum_nonneg fun k _ => mul_self_nonneg _) (by norm_num)) he
  refine ⟨_, _, (Real.sqrt ((∑ k, (X k - (∑ k, X k) / 2048) * (X k - (∑ k, X k) / 2048)) / 2048 + e))⁻¹, hc, hv,
    Eq.trans (b := Ideal.rsqrt (spread fun k => (X k : EReal))) rfl ((congrArg Ideal.rsqrt hv).trans ?_), ne_of_gt hp, ?_, ?_⟩
  · rw [Ideal.rsqrt_coe, if_neg (not_lt.mpr hp.le), if_neg (ne_of_gt hp)]
  · rw [← mul_inv, Real.mul_self_sqrt hp.le, inv_mul_cancel₀ (ne_of_gt hp)]
  · rw [Finset.sum_sub_distrib, Finset.sum_const, Finset.card_univ, Fintype.card_fin, nsmul_eq_mul]
    push_cast
    ring

/-- On real rows the step-by-step gradient is the closed form. -/
theorem steps_eq (x d : Fin 2048 → EReal) (hx : ∀ k, IsReal (x k)) (hd : ∀ k, IsReal (d k)) (j : Fin 2048) : steps x d j = back x d j := by
  choose X hX using hx
  choose D hD using hd
  obtain rfl : x = fun k => (X k : EReal) := funext hX
  obtain rfl : d = fun k => (D k : EReal) := funext hD
  obtain ⟨C, v, s, hc, hv, hs, hv0, hsv, hC⟩ := row_coe X
  have hq : Ideal.div (s : EReal) (v : EReal) = ((s * s * s : ℝ) : EReal) := by
    rw [Ideal.div_coe hv0, ← EReal.coe_mul]
    congr 1
    field_simp
    linear_combination s * (-hsv)
  have hw : ∀ k, viaSpread (fun k => (X k : EReal)) (fun k => (D k : EReal)) k = ((-(s * s * s * (∑ i, C i * D i) / 2048) * C k : ℝ) : EReal) := fun k => by
    unfold viaSpread
    simp only [hc, hs, hv, hq, bits_2048, bits_two, bits_neg_half, ← EReal.coe_mul, sum_coe]
    rw [Ideal.div_coe (by norm_num), ← EReal.coe_mul, ← EReal.coe_mul]
    congr 1
    ring
  unfold steps back xhat
  simp only [hw, hc, hs, ← EReal.coe_mul, ← EReal.coe_neg, mean_coe, sum_coe, ← EReal.coe_add, ← EReal.coe_sub, bits_2048]
  rw [Ideal.div_coe (by norm_num), ← EReal.coe_mul, ← EReal.coe_add]
  congr 1
  have e1 : ∑ k, -(-(s * s * s * (∑ i, C i * D i) / 2048) * C k) = 0 := by
    rw [Finset.sum_neg_distrib, ← Finset.mul_sum, hC, mul_zero, neg_zero]
  have e2 : ∑ k, -(D k * s) = -((∑ k, D k) * s) := by
    rw [Finset.sum_neg_distrib, Finset.sum_mul]
  have e3 : ∑ k, D k * (C k * s) = (∑ k, C k * D k) * s := by
    rw [Finset.sum_mul]
    exact Finset.sum_congr rfl fun k _ => by ring
  rw [e1, e2, e3]
  ring

/-- The normalised entries of a real row are real. -/
theorem xhat_real (x : Fin 2048 → EReal) (hx : ∀ k, IsReal (x k)) (j : Fin 2048) : IsReal (xhat x j) := by
  choose X hX using hx
  obtain rfl : x = fun k => (X k : EReal) := funext hX
  obtain ⟨C, v, s, hc, hv, hs, hv0, hsv, hC⟩ := row_coe X
  unfold xhat
  rw [hc, hs]
  exact mul (coe _) (coe _)

end Cert.Norm

end
-- ==== Proof.LossOut.lean ====
module

public import proofs.«01_k».proof.Proof.LossFwd
public import proofs.«01_k».proof.Proof.NormBack
public import Idealize.ShloMosaic.Lib.Pipeline.ReadBack

@[expose] public section

set_option maxRecDepth 16384

noncomputable section

/-! The forward call's epilogue: the loss, its gradient with respect to the residual connection, and its gradients with respect to the norm's
    scale and shift. The body works on four groups of 128 rows. -/

namespace Cert.Kernel14Ideal.Loss

open Cert.Kernel14Ideal Cert.Kernel14Ideal.Gen Idealize.ShloMosaic Idealize.ShloMosaic.TcCoe Idealize.SL.Sem

variable (m : (ℓ : Loc nD τ sig) → Buf (Elt Ideal) ℓ)

/-- The norm's output less the target. -/
def err (c : Dev nD) (r : Fin 4096) (q : Fin 2048) : EReal :=
  Norm.norm (z m c r) (fun k => g m c (ix1 k)) (fun k => b m c (ix1 k)) q - target m c (ix2 r q)

/-- The gradient with respect to the norm's output. -/
def dy (c : Dev nD) (r : Fin 4096) (q : Fin 2048) : EReal := err m c r q * Ideal.ofBits .f32 0x3A000000#32

/-- The gradient with respect to the residual connection. -/
def dz (c : Dev nD) : S4096x2048.Idx → EReal := fun i =>
  Norm.back (z m c (i 0)) (fun k => dy m c (i 0) k * g m c (ix1 k)) (i 1)

/-- Half that gradient. -/
def halfDz (c : Dev nD) : S4096x2048.Idx → EReal := fun i => Ideal.ofBits .f32 0x3F000000#32 * dz m c i

/-- What a row adds to the scale's gradient. -/
def dgRow (c : Dev nD) (r : Fin 4096) (q : Fin 2048) : EReal := dy m c r q * Norm.xhat (z m c r) q

/-- A row's mean squared error. -/
def sqRow (c : Dev nD) (r : Fin 4096) : EReal := (∑ k, err m c r k * err m c r k) * Ideal.ofBits .f32 0x3A000000#32

/-- A sum over a tile's rows is the sum over its four groups. -/
theorem sum_tile (f : Fin 512 → EReal) :
    ∑ p, f p = (∑ a : Fin 128, f ⟨a, by omega⟩) + (∑ a : Fin 128, f ⟨128 + a, by omega⟩)
      + (∑ a : Fin 128, f ⟨256 + a, by omega⟩) + ∑ a : Fin 128, f ⟨384 + a, by omega⟩ := by
  rw [Fin.sum_univ_add (a := 384) (b := 128) f, Fin.sum_univ_add (a := 256) (b := 128),
    Fin.sum_univ_add (a := 128) (b := 128)]
  rfl

/-- A row of a tile, its number within the tile written out. -/
theorem at_row (G : S4096x2048.Idx → EReal) (t : Fin grid0.N) (p : Fin 512) (q : Fin 2048) {n : Nat} (h : p.val = n) :
    G (ix2 (rowAt t p) q) = G (ix2 ⟨t.val / 11 * 512 + n, h ▸ (rowAt t p).isLt⟩ q) := by
  subst h
  rfl

/-- The gradient with respect to the residual connection, as stored. -/
theorem stored_dz (c : Dev nD) (t : Fin cfg0.N) (ht : t.val % 11 = 10) (p : Fin 512) (q : Fin 2048) :
    @Eq EReal ((outsAt0 m c t.val t.isLt).2.2.2.1 (ix2 p q)) (dz m c (ix2 (rowAt t p) q)) := by
  have hp := fun p k => product m c t ht p k
  rw [outsAt0_C m c t (by omega) (by omega) ht] at hp ⊢
  revert hp
  frame_out
  simp (disch := decide) only [View.readCov_fill]
  generalize k0_pay1 (F := Ideal) _ _ _ = W
  intro hp
  canon_tiles w h
  all_goals
    obtain ⟨a, k, rfl⟩ : ∃ a k, w = ix2 a k := ⟨w 0, w 1, eq_ix2 w⟩
    obtain rfl : q = k := Fin.ext h1
    unfold_payloads
    pointwise
    simp only [block_x, block_g, block_b, block_target, hp]
    exact (at_row (dz m c) t p q h0).symm

/-- Half of it, as stored. -/
theorem stored_half (c : Dev nD) (t : Fin cfg0.N) (ht : t.val % 11 = 10) (p : Fin 512) (q : Fin 2048) :
    @Eq EReal ((outsAt0 m c t.val t.isLt).2.2.2.2.1 (ix2 p q)) (halfDz m c (ix2 (rowAt t p) q)) := by
  have hp := fun p k => product m c t ht p k
  rw [outsAt0_C m c t (by omega) (by omega) ht] at hp ⊢
  revert hp
  frame_out
  simp (disch := decide) only [View.readCov_fill]
  generalize k0_pay1 (F := Ideal) _ _ _ = W
  intro hp
  canon_tiles w h
  all_goals
    obtain ⟨a, k, rfl⟩ : ∃ a k, w = ix2 a k := ⟨w 0, w 1, eq_ix2 w⟩
    obtain rfl : q = k := Fin.ext h1
    unfold_payloads
    pointwise
    simp only [block_x, block_g, block_b, block_target, hp]
    exact (at_row (halfDz m c) t p q h0).symm

/-- What a tile adds to the scale's gradient. -/
theorem step_dlg (c : Dev nD) (t : Fin cfg0.N) (ht : t.val % 11 = 10) (q : Fin 2048) :
    @Eq EReal ((outsAt0 m c t.val t.isLt).2.2.2.2.2.1 (ix2 0 q))
      ((outsAt0 m c (t.val - 1) (by omega)).2.2.2.2.2.1 (ix2 0 q) + ∑ p, dgRow m c (rowAt t p) q) := by
  have hp := fun p k => product m c t ht p k
  rw [outsAt0_C m c t (by omega) (by omega) ht] at hp ⊢
  revert hp
  frame_out
  simp (disch := decide) only [View.readCov_fill]
  generalize k0_pay1 (F := Ideal) _ _ _ = W
  intro hp
  unfold_payloads
  pointwise
  simp only [block_x, block_g, block_b, block_target, hp]
  rw [sum_tile]
  simp only [← add_assoc]
  rfl

/-- What a tile adds to the shift's gradient. -/
theorem step_dlb (c : Dev nD) (t : Fin cfg0.N) (ht : t.val % 11 = 10) (q : Fin 2048) :
    @Eq EReal ((outsAt0 m c t.val t.isLt).2.2.2.2.2.2.1 (ix2 0 q))
      ((outsAt0 m c (t.val - 1) (by omega)).2.2.2.2.2.2.1 (ix2 0 q) + ∑ p, dy m c (rowAt t p) q) := by
  have hp := fun p k => product m c t ht p k
  rw [outsAt0_C m c t (by omega) (by omega) ht] at hp ⊢
  revert hp
  frame_out
  simp (disch := decide) only [View.readCov_fill]
  generalize k0_pay1 (F := Ideal) _ _ _ = W
  intro hp
  unfold_payloads
  pointwise
  simp only [block_x, block_g, block_b, block_target, hp]
  rw [sum_tile]
  simp only [← add_assoc]
  rfl

/-- What tile `i` adds to the loss, in four groups of rows. -/
def lossTile (c : Dev nD) (i : Fin 8) : EReal :=
  Ideal.ofBits .f32 0x3F000000#32 * (∑ a : Fin 128, sqRow m c ⟨i.val * 512 + a.val, by omega⟩)
    + Ideal.ofBits .f32 0x3F000000#32 * (∑ a : Fin 128, sqRow m c ⟨i.val * 512 + (128 + a.val), by omega⟩)
    + Ideal.ofBits .f32 0x3F000000#32 * (∑ a : Fin 128, sqRow m c ⟨i.val * 512 + (256 + a.val), by omega⟩)
    + Ideal.ofBits .f32 0x3F000000#32 * ∑ a : Fin 128, sqRow m c ⟨i.val * 512 + (384 + a.val), by omega⟩

/-- Adding four terms one after the other adds their sum. -/
theorem assoc_four (s a b c d : EReal) : s + a + b + c + d = s + (a + b + c + d) := by
  simp only [add_assoc]

/-- What a tile adds to the loss. -/
theorem step_loss (c : Dev nD) (t : Fin cfg0.N) (ht : t.val % 11 = 10) (i : Fin 8) (q : Fin 128) :
    @Eq EReal ((outsAt0 m c t.val t.isLt).2.2.2.2.2.2.2.1 (ix2 i q))
      ((outsAt0 m c (t.val - 1) (by omega)).2.2.2.2.2.2.2.1 (ix2 i q) + lossTile m c ⟨t.val / 11, by have := t.isLt; change t.val < 88 at this; omega⟩) := by
  have hp := fun p k => product m c t ht p k
  rw [outsAt0_C m c t (by omega) (by omega) ht] at hp ⊢
  revert hp
  frame_out
  simp (disch := decide) only [View.readCov_fill]
  generalize k0_pay1 (F := Ideal) _ _ _ = W
  intro hp
  unfold_payloads
  pointwise
  simp only [block_x, block_g, block_b, block_target, hp]
  exact assoc_four _ _ _ _ _

/-- The first point clears the block. -/
theorem clear_dlg (c : Dev nD) (t : Fin cfg0.N) (h : t.val % 88 = 0) (q : Fin 2048) :
    @Eq EReal ((outsAt0 m c t.val t.isLt).2.2.2.2.2.1 (ix2 0 q)) 0 := by
  rw [outsAt0_A m c t (by omega) h (by omega)]
  frame_out
  unfold_payloads
  pointwise

/-- A point which does not end a tile leaves the block as it was. -/
theorem keep_dlg (c : Dev nD) (t : Fin cfg0.N) (h : ¬t.val % 88 = 0) (ht : ¬t.val % 11 = 10) (q : Fin 2048) :
    @Eq EReal ((outsAt0 m c t.val t.isLt).2.2.2.2.2.1 (ix2 0 q)) ((outsAt0 m c (t.val - 1) (by omega)).2.2.2.2.2.1 (ix2 0 q)) := by
  by_cases h0 : t.val % 11 = 0
  · rw [outsAt0_D m c t h0 h ht]
    frame_out
    rfl
  · rw [outsAt0_B m c t h0 h ht]
    frame_out
    rfl

/-- The first point clears the block. -/
theorem clear_dlb (c : Dev nD) (t : Fin cfg0.N) (h : t.val % 88 = 0) (q : Fin 2048) :
    @Eq EReal ((outsAt0 m c t.val t.isLt).2.2.2.2.2.2.1 (ix2 0 q)) 0 := by
  rw [outsAt0_A m c t (by omega) h (by omega)]
  frame_out
  unfold_payloads
  pointwise

/-- A point which does not end a tile leaves the block as it was. -/
theorem keep_dlb (c : Dev nD) (t : Fin cfg0.N) (h : ¬t.val % 88 = 0) (ht : ¬t.val % 11 = 10) (q : Fin 2048) :
    @Eq EReal ((outsAt0 m c t.val t.isLt).2.2.2.2.2.2.1 (ix2 0 q)) ((outsAt0 m c (t.val - 1) (by omega)).2.2.2.2.2.2.1 (ix2 0 q)) := by
  by_cases h0 : t.val % 11 = 0
  · rw [outsAt0_D m c t h0 h ht]
    frame_out
    rfl
  · rw [outsAt0_B m c t h0 h ht]
    frame_out
    rfl

/-- The first point clears the block. -/
theorem clear_loss (c : Dev nD) (t : Fin cfg0.N) (h : t.val % 88 = 0) (i : Fin 8) (q : Fin 128) :
    @Eq EReal ((outsAt0 m c t.val t.isLt).2.2.2.2.2.2.2.1 (ix2 i q)) 0 := by
  rw [outsAt0_A m c t (by omega) h (by omega)]
  frame_out
  unfold_payloads
  pointwise

/-- A point which does not end a tile leaves the block as it was. -/
theorem keep_loss (c : Dev nD) (t : Fin cfg0.N) (h : ¬t.val % 88 = 0) (ht : ¬t.val % 11 = 10) (i : Fin 8) (q : Fin 128) :
    @Eq EReal ((outsAt0 m c t.val t.isLt).2.2.2.2.2.2.2.1 (ix2 i q)) ((outsAt0 m c (t.val - 1) (by omega)).2.2.2.2.2.2.2.1 (ix2 i q)) := by
  by_cases h0 : t.val % 11 = 0
  · rw [outsAt0_D m c t h0 h ht]
    frame_out
    rfl
  · rw [outsAt0_B m c t h0 h ht]
    frame_out
    rfl

/-- A block cleared at the first point and added to at the end of each row tile holds the sum over the tiles. -/
theorem total (f : (n : Nat) → n < cfg0.N → EReal) (T : Fin 8 → EReal)
    (h0 : ∀ s : Fin cfg0.N, s.val % 88 = 0 → f s.val s.isLt = 0)
    (hk : ∀ s : Fin cfg0.N, ¬s.val % 88 = 0 → ¬s.val % 11 = 10 → f s.val s.isLt = f (s.val - 1) (by omega))
    (hs : ∀ s : Fin cfg0.N, s.val % 11 = 10 →
      f s.val s.isLt = f (s.val - 1) (by omega) + T ⟨s.val / 11, by have := s.isLt; change s.val < 88 at this; omega⟩)
    (t : Fin cfg0.N) (ht : t.val % 88 = 87) : f t.val t.isLt = ∑ i, T i := by
  have hN : ∀ s : Fin cfg0.N, s.val < 88 := fun s => s.isLt
  refine (Pipeline.eq_sum_fin_of_reset_step_of_flush (M := EReal) f 88 0
    (fun s => if s.val % 11 = 10 then T ⟨s.val / 11, by have := hN s; omega⟩ else 0) (fun s h => ?_) (fun s h => ?_) t ht).trans ?_
  · rw [h0 s h, if_neg (by omega), zero_add]
  · by_cases h1 : s.val % 11 = 10
    · rw [hs s h1, if_pos h1]
    · rw [hk s h h1, if_neg h1, add_zero]
  · rw [zero_add]
    refine (Fin.sum_mul_add_fin (M := EReal) 8 11 (L := 88) (fun s => if (88 * (t.val / 88) + s.val) % 11 = 10 then
      T ⟨(88 * (t.val / 88) + s.val) / 11, by have := hN t; omega⟩ else 0)).symm.trans (Finset.sum_congr rfl fun i _ => ?_)
    have ht' := hN t
    rw [Finset.sum_eq_single (10 : Fin 11)]
    · rw [if_pos (by show (88 * (t.val / 88) + (i.val * 11 + 10)) % 11 = 10; omega)]
      congr 1
      apply Fin.ext
      show (88 * (t.val / 88) + (i.val * 11 + 10)) / 11 = i.val
      omega
    · intro k _ hk'
      have : k.val ≠ 10 := fun e => hk' (Fin.ext e)
      rw [if_neg]
      show ¬(88 * (t.val / 88) + (i.val * 11 + k.val)) % 11 = 10
      omega
    · intro h; exact absurd (Finset.mem_univ _) h

/-- The sum over the row tiles and their rows is the sum over the rows. -/
theorem sum_rows (f : Fin 4096 → EReal) : (∑ i : Fin 8, ∑ p : Fin 512, f ⟨i.val * 512 + p.val, by omega⟩) = ∑ r, f r :=
  Fin.sum_mul_add_fin (M := EReal) 8 512 f

/-- The scale's gradient. -/
def dlg (c : Dev nD) : S1x2048.Idx → EReal := fun i => ∑ r, dgRow m c r (i 1)

/-- The shift's gradient. -/
def dlb (c : Dev nD) : S1x2048.Idx → EReal := fun i => ∑ r, dy m c r (i 1)

/-- The loss, in every entry of a small block. -/
def loss (c : Dev nD) : S8x128.Idx → EReal := fun _ => ∑ i, lossTile m c i

/-- What the whole output array holds at the end. -/
theorem final_dz (c : Dev nD) : (dats m 0 c).arrAt 10 cfg0.N = dz m c := by
  refine (dats m 0 c).arrAt_eq_of_covers 10 _ (by decide +kernel) fun t hf y => ?_
  obtain ⟨p, q, rfl⟩ : ∃ (p : Fin 512) (q : Fin 2048), y = ix2 p q := ⟨y 0, y 1, eq_ix2 y⟩
  blk_simp
  rw [after0_10]
  refine (stored_dz m c t ((flush0_10 t).mp hf) p q).trans (congrArg (dz m c) (a₁ := ix2 (rowAt t p) q) ?_)
  funext a
  apply Fin.ext
  match a with
  | ⟨0, _⟩ => show t.val / 11 * 512 + p.val = win0_10.index t 0 * 512 + 1 * p.val; rw [(idxOut t).2.2.2.1]; simp
  | ⟨1, _⟩ => show q.val = win0_10.index t 1 * 2048 + 1 * q.val; rw [(idxOut t).2.2.2.1]; simp

/-- What the whole output array holds at the end. -/
theorem final_halfDz (c : Dev nD) : (dats m 0 c).arrAt 11 cfg0.N = halfDz m c := by
  refine (dats m 0 c).arrAt_eq_of_covers 11 _ (by decide +kernel) fun t hf y => ?_
  obtain ⟨p, q, rfl⟩ : ∃ (p : Fin 512) (q : Fin 2048), y = ix2 p q := ⟨y 0, y 1, eq_ix2 y⟩
  blk_simp
  rw [after0_11]
  refine (stored_half m c t ((flush0_11 t).mp hf) p q).trans (congrArg (halfDz m c) (a₁ := ix2 (rowAt t p) q) ?_)
  funext a
  apply Fin.ext
  match a with
  | ⟨0, _⟩ => show t.val / 11 * 512 + p.val = win0_11.index t 0 * 512 + 1 * p.val; rw [(idxOut t).2.2.2.2.1]; simp
  | ⟨1, _⟩ => show q.val = win0_11.index t 1 * 2048 + 1 * q.val; rw [(idxOut t).2.2.2.2.1]; simp

/-- What the whole output array holds at the end. -/
theorem final_dlg (c : Dev nD) : (dats m 0 c).arrAt 12 cfg0.N = dlg m c := by
  refine (dats m 0 c).arrAt_eq_of_covers 12 _ (by decide +kernel) fun t hf y => ?_
  obtain ⟨q, rfl⟩ : ∃ q : Fin 2048, y = ix2 0 q :=
    ⟨y 1, (eq_ix2 y).trans (congrArg (fun a : Fin 1 => ix2 a (y 1)) (Subsingleton.elim (α := Fin 1) _ _))⟩
  blk_simp
  rw [after0_12]
  refine (total (fun n h => (outsAt0 m c n h).2.2.2.2.2.1 (ix2 0 q)) (fun i => ∑ p : Fin 512, dgRow m c ⟨i.val * 512 + p.val, by omega⟩ q)
    (fun s h => clear_dlg m c s h q) (fun s h h' => keep_dlg m c s h h' q) (fun s h => step_dlg m c s h q) t
    ((flush0_12 t).mp hf)).trans ((sum_rows fun r => dgRow m c r q).trans
      (congrArg (dlg m c) (a₁ := ix2 0 q) ?_))
  funext a
  apply Fin.ext
  match a with
  | ⟨0, _⟩ => show 0 = win0_12.index t 0 * 1 + 1 * 0; rw [(idxOut t).2.2.2.2.2.1]; simp
  | ⟨1, _⟩ => show q.val = win0_12.index t 1 * 2048 + 1 * q.val; rw [(idxOut t).2.2.2.2.2.1]; simp

/-- What the whole output array holds at the end. -/
theorem final_dlb (c : Dev nD) : (dats m 0 c).arrAt 13 cfg0.N = dlb m c := by
  refine (dats m 0 c).arrAt_eq_of_covers 13 _ (by decide +kernel) fun t hf y => ?_
  obtain ⟨q, rfl⟩ : ∃ q : Fin 2048, y = ix2 0 q :=
    ⟨y 1, (eq_ix2 y).trans (congrArg (fun a : Fin 1 => ix2 a (y 1)) (Subsingleton.elim (α := Fin 1) _ _))⟩
  blk_simp
  rw [after0_13]
  refine (total (fun n h => (outsAt0 m c n h).2.2.2.2.2.2.1 (ix2 0 q)) (fun i => ∑ p : Fin 512, dy m c ⟨i.val * 512 + p.val, by omega⟩ q)
    (fun s h => clear_dlb m c s h q) (fun s h h' => keep_dlb m c s h h' q) (fun s h => step_dlb m c s h q) t
    ((flush0_13 t).mp hf)).trans ((sum_rows fun r => dy m c r q).trans
      (congrArg (dlb m c) (a₁ := ix2 0 q) ?_))
  funext a
  apply Fin.ext
  match a with
  | ⟨0, _⟩ => show 0 = win0_13.index t 0 * 1 + 1 * 0; rw [(idxOut t).2.2.2.2.2.2.1]; simp
  | ⟨1, _⟩ => show q.val = win0_13.index t 1 * 2048 + 1 * q.val; rw [(idxOut t).2.2.2.2.2.2.1]; simp

/-- What the whole output array holds at the end. -/
theorem final_loss (c : Dev nD) : (dats m 0 c).arrAt 14 cfg0.N = loss m c := by
  refine (dats m 0 c).arrAt_eq_of_covers 14 _ (by decide +kernel) fun t hf y => ?_
  obtain ⟨i, q, rfl⟩ : ∃ (i : Fin 8) (q : Fin 128), y = ix2 i q := ⟨y 0, y 1, eq_ix2 y⟩
  blk_simp
  rw [after0_14]
  exact total (fun n h => (outsAt0 m c n h).2.2.2.2.2.2.2.1 (ix2 i q)) (lossTile m c) (fun s h => clear_loss m c s h i q)
    (fun s h h' => keep_loss m c s h h' i q) (fun s h => step_loss m c s h i q) t ((flush0_14 t).mp hf)

end Cert.Kernel14Ideal.Loss

end
-- ==== Proof.FfnFwdLoss.lean ====
module

public import proofs.«01_k».proof.Proof.LossOut
public import proofs.«01_k».proof.Proof.Gen.Pre_finite14
public import proofs.«01_k».proof.Proof.Gen.Kernel14Ideal.Value
public import proofs.«01_k».proof.Proof.Gen.Reference14Ideal.Run
public import proofs.«01_k».proof.Proof.Gen.Reference14Ideal.Read
public import proofs.«01_k».proof.Proof.Reals
public import proofs.«01_k».proof.Defs

@[expose] public section

set_option maxRecDepth 16384

noncomputable section

/-! The forward call that ends in the loss: the reference, and the call's agreement with it. -/

namespace Cert.Kernel14Ideal.Loss

open Cert.Kernel14Ideal Cert.Kernel14Ideal.Gen Idealize.ShloMosaic Idealize.ShloMosaic.TcCoe Idealize.SL.Sem

variable (m : (ℓ : Loc nD τ sig) → Buf (Elt Ideal) ℓ)

/-! ### What the precondition gives -/

/-- Under the precondition every argument holds real numbers. -/
theorem reals (h : Cert.Pre_Kernel14Ideal_finite14 (hPre_finite14 := Cert.Pre_finite14.Gen.facts) m) (c : Dev nD) :
    (∀ i, Reals.IsReal (x m c i)) ∧ (∀ i, Reals.IsReal (wgu m c i)) ∧ (∀ i, Reals.IsReal (wd m c i)) ∧ (∀ i, Reals.IsReal (g m c i))
      ∧ (∀ i, Reals.IsReal (b m c i)) ∧ ∀ i, Reals.IsReal (target m c i) := by
  have e := congrFun (h c) (fun a => Fin.elim0 a)
  dsimp only [Cert.Pre_finite14.fn] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  haveI : Subsingleton Cert.Pre_finite14.S_.Idx := ⟨fun a b => funext fun d => Fin.elim0 d⟩
  exact ⟨Reals.of_all _ _ _ _ _ _ _ e0, Reals.of_all _ _ _ _ _ _ _ e1, Reals.of_all _ _ _ _ _ _ _ e2, Reals.of_all _ _ _ _ _ _ _ e3,
    Reals.of_all _ _ _ _ _ _ _ e4, Reals.of_all _ _ _ _ _ _ _ e5⟩

/-- Under the precondition the products, the residual connection, the error and the gradients are real numbers. -/
theorem real_gu (h : Cert.Pre_Kernel14Ideal_finite14 (hPre_finite14 := Cert.Pre_finite14.Gen.facts) m) (c : Dev nD) (r : Fin 4096) (q : Fin 11264) :
    Reals.IsReal (gu m c r q) :=
  Reals.sum _ _ fun _ => Reals.mul ((reals m h c).1 _) ((reals m h c).2.1 _)

/-- Under the precondition these entries are real numbers. -/
theorem real_z (h : Cert.Pre_Kernel14Ideal_finite14 (hPre_finite14 := Cert.Pre_finite14.Gen.facts) m) (c : Dev nD) (r : Fin 4096) (q : Fin 2048) :
    Reals.IsReal (z m c r q) :=
  Reals.add (Reals.mul (Reals.ofBits _ (by decide)) ((reals m h c).1 _))
    (Reals.mul (Reals.ofBits _ (by decide)) (Reals.sum _ _ fun _ =>
      Reals.mul (Reals.mul (Reals.mul (real_gu m h c _ _) (Reals.sig (real_gu m h c _ _))) (real_gu m h c _ _)) ((reals m h c).2.2.1 _)))

/-- Under the precondition these entries are real numbers. -/
theorem real_err (h : Cert.Pre_Kernel14Ideal_finite14 (hPre_finite14 := Cert.Pre_finite14.Gen.facts) m) (c : Dev nD) (r : Fin 4096) (q : Fin 2048) :
    Reals.IsReal (err m c r q) :=
  Reals.sub (Reals.add (Reals.mul (Norm.xhat_real _ (real_z m h c r) q) ((reals m h c).2.2.2.1 _)) ((reals m h c).2.2.2.2.1 _))
    ((reals m h c).2.2.2.2.2 _)

/-- Under the precondition these entries are real numbers. -/
theorem real_dy (h : Cert.Pre_Kernel14Ideal_finite14 (hPre_finite14 := Cert.Pre_finite14.Gen.facts) m) (c : Dev nD) (r : Fin 4096) (q : Fin 2048) :
    Reals.IsReal (dy m c r q) :=
  Reals.mul (real_err m h c r q) (Reals.ofBits _ (by decide))

/-- Twice a real number times half of one part in 2048 is that part of it. -/
theorem twice_part {e : EReal} (he : Reals.IsReal e) :
    Ideal.div (Ideal.ofBits .f32 0x3F000000#32) (Ideal.ofBits .f32 0x45000000#32)
      * (Ideal.ofBits .f32 0x40000000#32 * e) = e * Ideal.ofBits .f32 0x3A000000#32 := by
  obtain ⟨e, rfl⟩ := he
  rw [Norm.bits_half, Norm.bits_2048, Norm.bits_two, Norm.bits_part, Ideal.div_coe (by norm_num), ← EReal.coe_mul, ← EReal.coe_mul,
    ← EReal.coe_mul, ← EReal.coe_mul]
  congr 1
  ring

/-- The tiles' losses add up to half the sum of the rows' mean squared errors. -/
theorem loss_eq (h : Cert.Pre_Kernel14Ideal_finite14 (hPre_finite14 := Cert.Pre_finite14.Gen.facts) m) (c : Dev nD) :
    Ideal.ofBits .f32 0x3F000000#32 * (∑ r, Ideal.div (∑ k, err m c r k * err m c r k) (Ideal.ofBits .f32 0x45000000#32))
      = ∑ i, lossTile m c i := by
  have hs : ∀ r, ∃ s : ℝ, sqRow m c r = (s : EReal)
      ∧ Ideal.div (∑ k, err m c r k * err m c r k) (Ideal.ofBits .f32 0x45000000#32) = (s : EReal) := fun r => by
    obtain ⟨s, hs⟩ : Reals.IsReal (∑ k, err m c r k * err m c r k) :=
      Reals.sum _ _ fun k => Reals.mul (real_err m h c r k) (real_err m h c r k)
    refine ⟨s * (1 / 2048), ?_, ?_⟩
    · unfold sqRow
      rw [hs, Norm.bits_part, ← EReal.coe_mul]
    · rw [hs, Norm.bits_2048, Ideal.div_coe (by norm_num), ← EReal.coe_mul]
  choose s h1 h2 using hs
  have ht : ∀ i : Fin 8, lossTile m c i = ((1 / 2 * ∑ p : Fin 512, s ⟨i.val * 512 + p.val, by omega⟩ : ℝ) : EReal) := fun i => by
    unfold lossTile
    simp only [h1, Norm.bits_half, Norm.sum_coe, ← EReal.coe_mul, ← EReal.coe_add, ← mul_add]
    congr 2
    rw [Fin.sum_univ_add (a := 384) (b := 128) (fun p : Fin 512 => s ⟨i.val * 512 + p.val, by omega⟩), Fin.sum_univ_add (a := 256) (b := 128),
      Fin.sum_univ_add (a := 128) (b := 128)]
    rfl
  simp only [h2, ht, Norm.sum_coe, Norm.bits_half, ← EReal.coe_mul, ← Finset.mul_sum]
  congr 2
  exact (Fin.sum_mul_add_fin (M := ℝ) 8 512 s).symm

/-! ### The reference -/

section
open Cert.Reference14Ideal.Read

/-- The reference computes the same function. -/
theorem ref_gate (c : Dev nD) : val_main_v1 (F := Ideal) (x m c) (wgu m c) = fun i => gate m c (i 0) (i 1) := by
  funext i
  pointwise [val_main_v1, val_main_v0]
  rfl

/-- The reference computes the same function. -/
theorem ref_up (c : Dev nD) : val_main_v2 (F := Ideal) (x m c) (wgu m c) = fun i => up m c (i 0) (i 1) := by
  funext i
  pointwise [val_main_v2, val_main_v0]
  rfl

/-- The reference computes the same function. -/
theorem ref_hid (c : Dev nD) : val_main_v4 (F := Ideal) (x m c) (wgu m c) = fun i => hid m c (i 0) (i 1) := by
  funext i
  pointwise [val_main_v4, val_main_v3, val_main_call0_v5, val_main_call0_v4, val_main_call0_v3, val_main_call0_v2, val_main_call0_v1, val_main_call0_v0, val_main_call0_cst, val_main_call0_cst_0]
  rw [ref_gate, ref_up]
  rfl

/-- The reference computes the same function. -/
theorem ref_gateA (c : Dev nD) : val_main_v88 (F := Ideal) (x m c) (wgu m c) = gateA m c := by
  funext i
  pointwise [val_main_v88]
  rw [ref_gate]
  rfl

/-- The reference computes the same function. -/
theorem ref_upA (c : Dev nD) : val_main_v89 (F := Ideal) (x m c) (wgu m c) = upA m c := by
  funext i
  pointwise [val_main_v89]
  rw [ref_up]
  rfl

/-- The reference computes the same function. -/
theorem ref_hT (c : Dev nD) : val_main_v91 (F := Ideal) (x m c) (wgu m c) = hT m c := by
  funext i
  pointwise [val_main_v91, val_main_v90]
  rw [ref_hid]
  rfl

/-- The reference computes the same function. -/
theorem ref_z (c : Dev nD) : val_main_v10 (F := Ideal) (x m c) (wgu m c) (wd m c) = fun i => z m c (i 0) (i 1) := by
  funext i
  pointwise [val_main_v10, val_main_v9, val_main_v8, val_main_v7, val_main_v6, val_main_v5, val_main_cst, val_main_cst_0]
  rw [ref_hid]
  conv_lhs => rw [eq_ix2 i]
  rfl

/-- The reference computes the same function. -/
theorem ref_mean (c : Dev nD) : val_main_v14 (F := Ideal) (x m c) (wgu m c) (wd m c) = fun i => Norm.mean (z m c (i 0)) := by
  funext i
  pointwise [val_main_v14, val_main_v13, val_main_v12, val_main_v11, val_main_cst_1, val_main_cst_2]
  rw [ref_z]
  rfl

/-- The reference computes the same function. -/
theorem ref_centred (c : Dev nD) : val_main_v25 (F := Ideal) (x m c) (wgu m c) (wd m c) = fun i => Norm.centred (z m c (i 0)) (i 1) := by
  funext i
  pointwise [val_main_v25, val_main_v24]
  rw [ref_z, ref_mean]
  rfl

/-- The reference computes the same function. -/
theorem ref_spread (c : Dev nD) : val_main_v27 (F := Ideal) (x m c) (wgu m c) (wd m c) = fun i => Norm.spread (z m c (i 0)) := by
  funext i
  pointwise [val_main_v27, val_main_v26, val_main_v23, val_main_v22, val_main_v21, val_main_v20, val_main_v17, val_main_v16, val_main_v15, val_main_cst_4, val_main_cst_5, val_main_cst_6]
  rw [ref_z, ref_mean]
  rfl

/-- The reference computes the same function. -/
theorem ref_xhat (c : Dev nD) : val_main_v33 (F := Ideal) (x m c) (wgu m c) (wd m c) = fun i => Norm.xhat (z m c (i 0)) (i 1) := by
  funext i
  pointwise [val_main_v33, val_main_v32, val_main_v28]
  rw [ref_centred, ref_spread]
  rfl

/-- The reference computes the same function. -/
theorem ref_err (c : Dev nD) : val_main_v40 (F := Ideal) (x m c) (wgu m c) (wd m c) (g m c) (b m c) (target m c) = fun i => err m c (i 0) (i 1) := by
  funext i
  pointwise [val_main_v40, val_main_v39, val_main_v38, val_main_v37, val_main_v36, val_main_v35, val_main_v34]
  rw [ref_xhat]
  conv_lhs => rw [eq_ix2 i]
  rfl

/-- The reference computes the same function. -/
theorem ref_dy (h : Cert.Pre_Kernel14Ideal_finite14 (hPre_finite14 := Cert.Pre_finite14.Gen.facts) m) (c : Dev nD) :
    val_main_v54 (F := Ideal) (x m c) (wgu m c) (wd m c) (g m c) (b m c) (target m c) = fun i => dy m c (i 0) (i 1) := by
  funext i
  pointwise [val_main_v54, val_main_v53, val_main_v52, val_main_v51, val_main_v50, val_main_v49, val_main_v43, val_main_v42, val_main_cst_8, val_main_cst_13, val_main_cst_14, val_main_cst_15]
  rw [ref_err]
  exact twice_part (real_err m h c _ _)

/-- The reference computes the same function. -/
theorem ref_dxh (h : Cert.Pre_Kernel14Ideal_finite14 (hPre_finite14 := Cert.Pre_finite14.Gen.facts) m) (c : Dev nD) :
    val_main_v62 (F := Ideal) (x m c) (wgu m c) (wd m c) (g m c) (b m c) (target m c) = fun i => dy m c (i 0) (i 1) * g m c (ix1 (i 1)) := by
  funext i
  pointwise [val_main_v62, val_main_v61, val_main_v34]
  rw [ref_dy m h]

/-- The reference computes the same function. -/
theorem ref_scaled (h : Cert.Pre_Kernel14Ideal_finite14 (hPre_finite14 := Cert.Pre_finite14.Gen.facts) m) (c : Dev nD) :
    val_main_v68 (F := Ideal) (x m c) (wgu m c) (wd m c) (g m c) (b m c) (target m c)
      = fun i => dy m c (i 0) (i 1) * g m c (ix1 (i 1)) * Norm.scale (z m c (i 0)) := by
  funext i
  pointwise [val_main_v68, val_main_v67, val_main_v28]
  rw [ref_dxh m h, ref_spread]
  rfl

/-- The reference computes the same function. -/
theorem ref_via (h : Cert.Pre_Kernel14Ideal_finite14 (hPre_finite14 := Cert.Pre_finite14.Gen.facts) m) (c : Dev nD) :
    val_main_v77 (F := Ideal) (x m c) (wgu m c) (wd m c) (g m c) (b m c) (target m c)
      = fun i => Norm.viaSpread (z m c (i 0)) (fun k => dy m c (i 0) k * g m c (ix1 k)) (i 1) := by
  funext i
  pointwise [val_main_v77, val_main_v76, val_main_v75, val_main_v74, val_main_v73, val_main_v69, val_main_v66, val_main_v65, val_main_v64, val_main_v31, val_main_v30, val_main_v29, val_main_v28, val_main_v19, val_main_v18, val_main_v16, val_main_v15, val_main_cst_3, val_main_cst_7, val_main_cst_20, val_main_cst_22, val_main_cst_23]
  rw [ref_dxh m h, ref_spread, ref_centred, ref_z, ref_mean]
  exact congrArg (fun s : EReal => s * _) (Fin.sum_univ_one _)

/-- The reference computes the same function. -/
theorem ref_dz (h : Cert.Pre_Kernel14Ideal_finite14 (hPre_finite14 := Cert.Pre_finite14.Gen.facts) m) (c : Dev nD) :
    val_main_v87 (F := Ideal) (x m c) (wgu m c) (wd m c) (g m c) (b m c) (target m c) = dz m c := by
  funext i
  refine Eq.trans ?_ (Norm.steps_eq (z m c (i 0)) (fun k => dy m c (i 0) k * g m c (ix1 k)) (real_z m h c _)
    (fun k => Reals.mul (real_dy m h c _ k) ((reals m h c).2.2.2.1 _)) (i 1))
  pointwise [val_main_v87, val_main_v86, val_main_v85, val_main_v84, val_main_v83, val_main_v82, val_main_v81, val_main_v80, val_main_v79, val_main_v78, val_main_v72, val_main_v71, val_main_v70, val_main_cst_21, val_main_cst_24, val_main_cst_25, val_main_cst_26]
  rw [ref_scaled m h, ref_via m h]
  exact congrArg (fun s : EReal => _ + s) (Fin.sum_univ_one _)

/-- The reference computes the same function. -/
theorem ref_half (h : Cert.Pre_Kernel14Ideal_finite14 (hPre_finite14 := Cert.Pre_finite14.Gen.facts) m) (c : Dev nD) :
    val_main_v94 (F := Ideal) (x m c) (wgu m c) (wd m c) (g m c) (b m c) (target m c) = halfDz m c := by
  funext i
  pointwise [val_main_v94, val_main_v93, val_main_v92, val_main_cst_27]
  rw [ref_dz m h]
  rfl

/-- The reference computes the same function. -/
theorem ref_dlg (h : Cert.Pre_Kernel14Ideal_finite14 (hPre_finite14 := Cert.Pre_finite14.Gen.facts) m) (c : Dev nD) :
    val_main_v95 (F := Ideal) (x m c) (wgu m c) (wd m c) (g m c) (b m c) (target m c) = dlg m c := by
  funext i
  pointwise [val_main_v95, val_main_v63, val_main_v60, val_main_v59, val_main_v58, val_main_cst_18, val_main_cst_19]
  rw [ref_xhat, ref_dy m h]
  exact (Fin.sum_univ_one _).trans (Finset.sum_congr rfl fun r _ => mul_comm (G := EReal) _ _)

/-- The reference computes the same function. -/
theorem ref_dlb (h : Cert.Pre_Kernel14Ideal_finite14 (hPre_finite14 := Cert.Pre_finite14.Gen.facts) m) (c : Dev nD) :
    val_main_v96 (F := Ideal) (x m c) (wgu m c) (wd m c) (g m c) (b m c) (target m c) = dlb m c := by
  funext i
  pointwise [val_main_v96, val_main_v57, val_main_v56, val_main_v55, val_main_cst_16, val_main_cst_17]
  rw [ref_dy m h]
  exact Fin.sum_univ_one _

/-- The reference computes the same function. -/
theorem ref_loss (h : Cert.Pre_Kernel14Ideal_finite14 (hPre_finite14 := Cert.Pre_finite14.Gen.facts) m) (c : Dev nD) :
    val_main_v97 (F := Ideal) (x m c) (wgu m c) (wd m c) (g m c) (b m c) (target m c) = loss m c := by
  funext i
  refine Eq.trans ?_ (loss_eq m h c)
  pointwise [val_main_v97, val_main_v48, val_main_v47, val_main_v46, val_main_v45, val_main_v44, val_main_v41, val_main_cst_9, val_main_cst_10, val_main_cst_11, val_main_cst_12]
  rw [ref_err]
  rfl

end

end Cert.Kernel14Ideal.Loss

open Cert.Kernel14Ideal.Loss Idealize.ShloMosaic Idealize.SL.Sem in
/-- The kernel and the reference leave the same arrays, at finite arguments. -/
theorem Cert.Kernel14Ideal.Loss.algebraic :
    Cert.algebraic_Kernel14Ideal_Reference14Ideal_pre_finite14 (hPre_finite14 := Cert.Pre_finite14.Gen.facts) := by
  intro m g0 m' g' hpre h
  refine ⟨fun c => gateA m c, fun c => upA m c, fun c => hT m c, fun c => dz m c, fun c => halfDz m c, fun c => dlg m c, fun c => dlb m c,
    fun c => loss m c, (θ_run _ _ _).mono (fun r hr c => ?_) (Cert.Kernel14Ideal.Value.run_blocks m g0),
    (θ_run _ _ _).mono (fun r hr c => ?_) (Cert.Reference14Ideal.Value.run m' g')⟩
  · obtain ⟨h0, h1, h2, h3, h4, h5, h6, h7, hk⟩ := hr c
    exact ⟨h0.trans (final_gateA m c), h1.trans (final_upA m c), h2.trans (final_hT m c), h3.trans (final_dz m c), h4.trans (final_halfDz m c),
      h5.trans (final_dlg m c), h6.trans (final_dlb m c), h7.trans (final_loss m c), hk⟩
  · obtain ⟨h0, h1, h2, h3, h4, h5, h6, h7, hk⟩ := hr c
    obtain ⟨e0, e1, e2, e3, e4, e5⟩ := h c
    refine ⟨h0.trans ?_, h1.trans ?_, h2.trans ?_, h3.trans ((Cert.Reference14Ideal.Read.val_main_v87_eq m' c).trans ?_),
      h4.trans ((Cert.Reference14Ideal.Read.val_main_v94_eq m' c).trans ?_), h5.trans ((Cert.Reference14Ideal.Read.val_main_v95_eq m' c).trans ?_),
      h6.trans ((Cert.Reference14Ideal.Read.val_main_v96_eq m' c).trans ?_), h7.trans ((Cert.Reference14Ideal.Read.val_main_v97_eq m' c).trans ?_), hk⟩
      <;> simp only [e0, e1, e2, e3, e4, e5]
    · exact ref_gateA m c
    · exact ref_upA m c
    · exact ref_hT m c
    · exact ref_dz m hpre c
    · exact ref_half m hpre c
    · exact ref_dlg m hpre c
    · exact ref_dlb m hpre c
    · exact ref_loss m hpre c

end
-- ==== Proof.LnBwd.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite15
public import proofs.«01_k».proof.Proof.NormBack
public import proofs.«01_k».proof.Proof.Reals
public import proofs.«01_k».proof.Defs
public import Idealize.ShloMosaic.Lib.Pipeline.ValueKit
public import Idealize.ShloMosaic.Lib.Pointwise

@[expose] public section

set_option maxRecDepth 16384

noncomputable section

/-! The norm's backward call: each point takes 512 rows, stores their gradient and half of it, and adds to the gradients of the scale and the
    shift. -/

namespace Cert.Kernel15Ideal.LnBwd

open Cert.Kernel15Ideal Cert.Kernel15Ideal.Gen Idealize.ShloMosaic Idealize.ShloMosaic.TcCoe Idealize.SL.Sem

variable (m : (ℓ : Loc nD τ sig) → Buf (Elt Ideal) ℓ)

/-- The residual connection the norm was taken of. -/
abbrev z (c : Dev nD) : S4096x2048.Idx → EReal := m ((c : Thread nD τ).loc main_arg0)
/-- The gradient with respect to the norm's output. -/
abbrev dy (c : Dev nD) : S4096x2048.Idx → EReal := m ((c : Thread nD τ).loc main_arg1)
/-- The norm's scale. -/
abbrev g (c : Dev nD) : S2048.Idx → EReal := m ((c : Thread nD τ).loc main_arg2)
/-- The norm's shift, which its gradients do not depend on. -/
abbrev b (c : Dev nD) : S2048.Idx → EReal := m ((c : Thread nD τ).loc main_arg3)

/-- A row of the residual connection. -/
def row (c : Dev nD) (r : Fin 4096) : Fin 2048 → EReal := fun k => z m c (ix2 r k)

/-- The gradient of a row's normalised entries. -/
def dxh (c : Dev nD) (r : Fin 4096) : Fin 2048 → EReal := fun k => dy m c (ix2 r k) * g m c (ix1 k)

/-- The gradient with respect to the residual connection. -/
def dz (c : Dev nD) : S4096x2048.Idx → EReal := fun i => Norm.back (row m c (i 0)) (dxh m c (i 0)) (i 1)

/-- Half that gradient. -/
def halfDz (c : Dev nD) : S4096x2048.Idx → EReal := fun i => Ideal.ofBits .f32 0x3F000000#32 * dz m c i

/-- The scale's gradient. -/
def dg (c : Dev nD) : S1x2048.Idx → EReal := fun i => ∑ r : Fin 4096, dy m c (ix2 r (i 1)) * Norm.xhat (row m c r) (i 1)

/-- The shift's gradient. -/
def db (c : Dev nD) : S1x2048.Idx → EReal := fun i => ∑ r : Fin 4096, dy m c (ix2 r (i 1))

/-! ### The blocks -/

/-- Which block each window shows at each grid point. -/
theorem idx : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] := by
  decide +kernel

/-- The array's row that row `p` of point `t`'s block is. -/
abbrev rowAt (t : Fin grid0.N) (p : Fin 512) : Fin 4096 :=
  ⟨t.val * 512 + p.val, by have ht : t.val < 8 := lt_of_lt_of_eq t.isLt N_0; have := p.isLt; omega⟩

/-- What the window shows of its array, entry by entry. -/
theorem block_z (c : Dev nD) (t : Fin grid0.N) (p : Fin 512) (k : Fin 2048) :
    @Eq EReal (iblk m c 0 t (ix2 p k)) (z m c (ix2 (rowAt t p) k)) := by
  unfold z
  blk_point [iblk, V, (idx t).1]

/-- What the window shows of its array, entry by entry. -/
theorem block_dy (c : Dev nD) (t : Fin grid0.N) (p : Fin 512) (k : Fin 2048) :
    @Eq EReal (iblk m c 1 t (ix2 p k)) (dy m c (ix2 (rowAt t p) k)) := by
  unfold dy
  blk_point [iblk, V, (idx t).2.1]

/-- The scale as a row. -/
theorem V_g (c : Dev nD) : @Eq (S1x2048.Idx → EReal) (V m c main_v0) (fun i => g m c (ix1 (i 1))) := by
  funext i
  entry_read
  pointwise

/-- What the window shows of its array, entry by entry. -/
theorem block_g (c : Dev nD) (t : Fin grid0.N) (q : Fin 2048) : @Eq EReal (iblk m c 2 t (ix2 0 q)) (g m c (ix1 q)) := by
  refine Eq.trans (b := V m c main_v0 (ix2 0 q)) ?_ (congrFun (V_g m c) _)
  blk_point [iblk, (idx t).2.2.1]

/-! ### A point's rows -/

/-- The gradient with respect to the residual connection, as stored. -/
theorem stored_dz (c : Dev nD) (t : Fin cfg0.N) (p : Fin 512) (q : Fin 2048) :
    @Eq EReal ((outsAt0 m c t.val t.isLt).1 (ix2 p q)) (dz m c (ix2 (rowAt t p) q)) := by
  by_cases h0 : t.val % 8 = 0
  · rw [outsAt0_A m c t h0]
    frame_out
    unfold_payloads
    pointwise
    simp only [block_z, block_dy, block_g]
    rfl
  · rw [outsAt0_B m c t h0]
    frame_out
    unfold_payloads
    pointwise
    simp only [block_z, block_dy, block_g]
    rfl

/-- Half of it, as stored. -/
theorem stored_half (c : Dev nD) (t : Fin cfg0.N) (p : Fin 512) (q : Fin 2048) :
    @Eq EReal ((outsAt0 m c t.val t.isLt).2.1 (ix2 p q)) (halfDz m c (ix2 (rowAt t p) q)) := by
  by_cases h0 : t.val % 8 = 0
  · rw [outsAt0_A m c t h0]
    frame_out
    unfold_payloads
    pointwise
    simp only [block_z, block_dy, block_g]
    rfl
  · rw [outsAt0_B m c t h0]
    frame_out
    unfold_payloads
    pointwise
    simp only [block_z, block_dy, block_g]
    rfl

/-- After the last point the block holds the scale's gradient. -/
theorem stored_dg (c : Dev nD) (t : Fin cfg0.N) (ht : t.val % 8 = 7) (q : Fin 2048) :
    @Eq EReal ((outsAt0 m c t.val t.isLt).2.2.1 (ix2 0 q)) (dg m c (ix2 0 q)) := by
  refine (Pipeline.eq_sum_fin_of_reset_step_of_flush (M := EReal) (fun n h => (outsAt0 m c n h).2.2.1 (ix2 0 q)) 8 0
    (fun s => ∑ p : Fin 512, dy m c (ix2 (rowAt s p) q) * Norm.xhat (row m c (rowAt s p)) q) (fun s h0 => ?_) (fun s h0 => ?_) t ht).trans ?_
  · rw [outsAt0_A m c s h0, zero_add]
    frame_out
    unfold_payloads
    pointwise
    simp only [block_z, block_dy]
    rfl
  · rw [outsAt0_B m c s h0]
    frame_out
    unfold_payloads
    pointwise
    simp only [block_z, block_dy]
    rfl
  · rw [zero_add]
    refine Fin.sum_mul_add_congr (n := 512) fun s k hl => ?_
    have ht' : t.val < 8 := lt_of_lt_of_eq t.isLt N_0
    have e : 8 * (t.val / 8) + s.val = s.val := by omega
    simp only [rowAt, e]
    rfl

/-- After the last point the block holds the shift's gradient. -/
theorem stored_db (c : Dev nD) (t : Fin cfg0.N) (ht : t.val % 8 = 7) (q : Fin 2048) :
    @Eq EReal ((outsAt0 m c t.val t.isLt).2.2.2 (ix2 0 q)) (db m c (ix2 0 q)) := by
  refine (Pipeline.eq_sum_fin_of_reset_step_of_flush (M := EReal) (fun n h => (outsAt0 m c n h).2.2.2 (ix2 0 q)) 8 0
    (fun s => ∑ p : Fin 512, dy m c (ix2 (rowAt s p) q)) (fun s h0 => ?_) (fun s h0 => ?_) t ht).trans ?_
  · rw [outsAt0_A m c s h0, zero_add]
    frame_out
    unfold_payloads
    pointwise
    simp only [block_dy]
  · rw [outsAt0_B m c s h0]
    frame_out
    unfold_payloads
    pointwise
    simp only [block_dy]
  · rw [zero_add]
    refine Fin.sum_mul_add_congr (n := 512) fun s k hl => ?_
    have ht' : t.val < 8 := lt_of_lt_of_eq t.isLt N_0
    have e : 8 * (t.val / 8) + s.val = s.val := by omega
    simp only [rowAt, e]
    rfl

/-! ### The arrays -/

/-- What the whole output array holds at the end. -/
theorem final_dz (c : Dev nD) : (dats m 0 c).arrAt 3 cfg0.N = dz m c := by
  refine (dats m 0 c).arrAt_eq_of_covers 3 _ (by decide +kernel) fun t hf y => ?_
  obtain ⟨p, q, rfl⟩ : ∃ (p : Fin 512) (q : Fin 2048), y = ix2 p q := ⟨y 0, y 1, eq_ix2 y⟩
  blk_simp
  rw [after0_3]
  refine (stored_dz m c t p q).trans (congrArg (dz m c) (a₁ := ix2 (rowAt t p) q) ?_)
  funext a
  apply Fin.ext
  match a with
  | ⟨0, _⟩ => show t.val * 512 + p.val = win0_3.index t 0 * 512 + 1 * p.val; rw [(idx t).2.2.2.1]; simp
  | ⟨1, _⟩ => show q.val = win0_3.index t 1 * 2048 + 1 * q.val; rw [(idx t).2.2.2.1]; simp

/-- What the whole output array holds at the end. -/
theorem final_half (c : Dev nD) : (dats m 0 c).arrAt 4 cfg0.N = halfDz m c := by
  refine (dats m 0 c).arrAt_eq_of_covers 4 _ (by decide +kernel) fun t hf y => ?_
  obtain ⟨p, q, rfl⟩ : ∃ (p : Fin 512) (q : Fin 2048), y = ix2 p q := ⟨y 0, y 1, eq_ix2 y⟩
  blk_simp
  rw [after0_4]
  refine (stored_half m c t p q).trans (congrArg (halfDz m c) (a₁ := ix2 (rowAt t p) q) ?_)
  funext a
  apply Fin.ext
  match a with
  | ⟨0, _⟩ => show t.val * 512 + p.val = win0_4.index t 0 * 512 + 1 * p.val; rw [(idx t).2.2.2.2.1]; simp
  | ⟨1, _⟩ => show q.val = win0_4.index t 1 * 2048 + 1 * q.val; rw [(idx t).2.2.2.2.1]; simp

/-- What the whole output array holds at the end. -/
theorem final_dg (c : Dev nD) : (dats m 0 c).arrAt 5 cfg0.N = dg m c := by
  refine (dats m 0 c).arrAt_eq_of_covers 5 _ (by decide +kernel) fun t hf y => ?_
  obtain ⟨q, rfl⟩ : ∃ q : Fin 2048, y = ix2 0 q :=
    ⟨y 1, (eq_ix2 y).trans (congrArg (fun a : Fin 1 => ix2 a (y 1)) (Subsingleton.elim (α := Fin 1) _ _))⟩
  blk_simp
  rw [after0_5]
  refine (stored_dg m c t ((flush0_5 t).mp hf) q).trans (congrArg (dg m c) (a₁ := ix2 0 q) ?_)
  funext a
  apply Fin.ext
  match a with
  | ⟨0, _⟩ => show 0 = win0_5.index t 0 * 1 + 1 * 0; rw [(idx t).2.2.2.2.2.1]; simp
  | ⟨1, _⟩ => show q.val = win0_5.index t 1 * 2048 + 1 * q.val; rw [(idx t).2.2.2.2.2.1]; simp

/-- What the whole output array holds at the end. -/
theorem final_db (c : Dev nD) : (dats m 0 c).arrAt 6 cfg0.N = db m c := by
  refine (dats m 0 c).arrAt_eq_of_covers 6 _ (by decide +kernel) fun t hf y => ?_
  obtain ⟨q, rfl⟩ : ∃ q : Fin 2048, y = ix2 0 q :=
    ⟨y 1, (eq_ix2 y).trans (congrArg (fun a : Fin 1 => ix2 a (y 1)) (Subsingleton.elim (α := Fin 1) _ _))⟩
  blk_simp
  rw [after0_6]
  refine (stored_db m c t ((flush0_6 t).mp hf) q).trans (congrArg (db m c) (a₁ := ix2 0 q) ?_)
  funext a
  apply Fin.ext
  match a with
  | ⟨0, _⟩ => show 0 = win0_6.index t 0 * 1 + 1 * 0; rw [(idx t).2.2.2.2.2.2]; simp
  | ⟨1, _⟩ => show q.val = win0_6.index t 1 * 2048 + 1 * q.val; rw [(idx t).2.2.2.2.2.2]; simp

/-! ### The reference -/

/-- Under the precondition these arguments hold real numbers. -/
theorem reals (h : Cert.Pre_Kernel15Ideal_finite15 (hPre_finite15 := Cert.Pre_finite15.Gen.facts) m) (c : Dev nD) :
    (∀ i, Reals.IsReal (z m c i)) ∧ (∀ i, Reals.IsReal (dy m c i)) ∧ ∀ i, Reals.IsReal (g m c i) := by
  have e := congrFun (h c) (fun a => Fin.elim0 a)
  dsimp only [Cert.Pre_finite15.fn] at e
  obtain ⟨e, e2⟩ := IntOp.andi_eq_one.mp e
  obtain ⟨e0, e1⟩ := IntOp.andi_eq_one.mp e
  haveI : Subsingleton Cert.Pre_finite15.S_.Idx := ⟨fun a b => funext fun d => Fin.elim0 d⟩
  exact ⟨Reals.of_all _ _ _ _ _ _ _ e0, Reals.of_all _ _ _ _ _ _ _ e1, Reals.of_all _ _ _ _ _ _ _ e2⟩

section
open Cert.Reference15Ideal.Read

/-- The reference computes the same function. -/
theorem ref_mean (c : Dev nD) : val_main_v3 (F := Ideal) (z m c) = fun i => Norm.mean (row m c (i 0)) := by
  funext i
  pointwise [val_main_v3, val_main_v2, val_main_v1, val_main_v0, val_main_cst, val_main_cst_0]
  rfl

/-- The reference computes the same function. -/
theorem ref_centred (c : Dev nD) : val_main_v14 (F := Ideal) (z m c) = fun i => Norm.centred (row m c (i 0)) (i 1) := by
  funext i
  pointwise [val_main_v14, val_main_v13]
  rw [ref_mean]
  conv_lhs => rw [eq_ix2 i]
  rfl

/-- The reference computes the same function. -/
theorem ref_spread (c : Dev nD) : val_main_v16 (F := Ideal) (z m c) = fun i => Norm.spread (row m c (i 0)) := by
  funext i
  pointwise [val_main_v16, val_main_v15, val_main_v12, val_main_v11, val_main_v10, val_main_v9, val_main_v6, val_main_v5, val_main_v4, val_main_cst_2, val_main_cst_3, val_main_cst_4]
  rw [ref_mean]
  rfl

/-- The reference computes the same function. -/
theorem ref_xhat (c : Dev nD) : val_main_v22 (F := Ideal) (z m c) = fun i => Norm.xhat (row m c (i 0)) (i 1) := by
  funext i
  pointwise [val_main_v22, val_main_v21, val_main_v17]
  rw [ref_centred, ref_spread]
  rfl

/-- The reference computes the same function. -/
theorem ref_dxh (c : Dev nD) : val_main_v37 (F := Ideal) (dy m c) (g m c) = fun i => dxh m c (i 0) (i 1) := by
  funext i
  pointwise [val_main_v37, val_main_v36, val_main_v29, val_main_v23]
  conv_lhs => rw [eq_ix2 i]
  rfl

/-- The reference computes the same function. -/
theorem ref_scaled (c : Dev nD) :
    val_main_v43 (F := Ideal) (z m c) (dy m c) (g m c) = fun i => dxh m c (i 0) (i 1) * Norm.scale (row m c (i 0)) := by
  funext i
  pointwise [val_main_v43, val_main_v42, val_main_v17]
  rw [ref_dxh, ref_spread]
  rfl

/-- The reference computes the same function. -/
theorem ref_via (c : Dev nD) :
    val_main_v52 (F := Ideal) (z m c) (dy m c) (g m c) = fun i => Norm.viaSpread (row m c (i 0)) (dxh m c (i 0)) (i 1) := by
  funext i
  pointwise [val_main_v52, val_main_v51, val_main_v50, val_main_v49, val_main_v48, val_main_v44, val_main_v41, val_main_v40, val_main_v39, val_main_v20, val_main_v19, val_main_v18, val_main_v17, val_main_v8, val_main_v7, val_main_v5, val_main_v4, val_main_cst_1, val_main_cst_5, val_main_cst_10, val_main_cst_12, val_main_cst_13]
  rw [ref_dxh, ref_spread, ref_centred, ref_mean]
  conv_lhs => rw [eq_ix2 i]
  exact congrArg (fun s : EReal => s * _) (Fin.sum_univ_one _)

/-- The reference computes the same function. -/
theorem ref_dz (h : Cert.Pre_Kernel15Ideal_finite15 (hPre_finite15 := Cert.Pre_finite15.Gen.facts) m) (c : Dev nD) :
    val_main_v62 (F := Ideal) (z m c) (dy m c) (g m c) = dz m c := by
  funext i
  refine Eq.trans ?_ (Norm.steps_eq (row m c (i 0)) (dxh m c (i 0)) (fun k => (reals m h c).1 _)
    (fun k => Reals.mul ((reals m h c).2.1 _) ((reals m h c).2.2 _)) (i 1))
  pointwise [val_main_v62, val_main_v61, val_main_v60, val_main_v59, val_main_v58, val_main_v57, val_main_v56, val_main_v55, val_main_v54, val_main_v53, val_main_v47, val_main_v46, val_main_v45, val_main_cst_11, val_main_cst_14, val_main_cst_15, val_main_cst_16]
  rw [ref_scaled, ref_via]
  exact congrArg (fun s : EReal => _ + s) (Fin.sum_univ_one _)

/-- The reference computes the same function. -/
theorem ref_half (h : Cert.Pre_Kernel15Ideal_finite15 (hPre_finite15 := Cert.Pre_finite15.Gen.facts) m) (c : Dev nD) :
    val_main_v65 (F := Ideal) (z m c) (dy m c) (g m c) = halfDz m c := by
  funext i
  pointwise [val_main_v65, val_main_v64, val_main_v63, val_main_cst_17]
  rw [ref_dz m h]
  rfl

/-- The reference computes the same function. -/
theorem ref_dg (c : Dev nD) : val_main_v66 (F := Ideal) (z m c) (dy m c) = dg m c := by
  funext i
  pointwise [val_main_v66, val_main_v38, val_main_v35, val_main_v34, val_main_v33, val_main_v29, val_main_cst_8, val_main_cst_9]
  rw [ref_xhat]
  exact (Fin.sum_univ_one _).trans (Finset.sum_congr rfl fun r _ => mul_comm (G := EReal) _ _)

/-- The reference computes the same function. -/
theorem ref_db (c : Dev nD) : val_main_v67 (F := Ideal) (dy m c) = db m c := by
  funext i
  pointwise [val_main_v67, val_main_v32, val_main_v31, val_main_v30, val_main_cst_6, val_main_cst_7]
  exact Fin.sum_univ_one _

end

end Cert.Kernel15Ideal.LnBwd

open Cert.Kernel15Ideal.LnBwd Idealize.ShloMosaic Idealize.SL.Sem in
/-- The kernel and the reference leave the same arrays, at finite arguments. -/
theorem Cert.Kernel15Ideal.LnBwd.algebraic :
    Cert.algebraic_Kernel15Ideal_Reference15Ideal_pre_finite15 (hPre_finite15 := Cert.Pre_finite15.Gen.facts) := by
  intro m g0 m' g' hpre h
  refine ⟨fun c => dz m c, fun c => halfDz m c, fun c => dg m c, fun c => db m c,
    (θ_run _ _ _).mono (fun r hr c => ?_) (Cert.Kernel15Ideal.Value.run_blocks m g0),
    (θ_run _ _ _).mono (fun r hr c => ?_) (Cert.Reference15Ideal.Value.run m' g')⟩
  · obtain ⟨h0, h1, h2, h3, hk⟩ := hr c
    exact ⟨h0.trans (final_dz m c), h1.trans (final_half m c), h2.trans (final_dg m c), h3.trans (final_db m c), hk⟩
  · obtain ⟨h0, h1, h2, h3, hk⟩ := hr c
    obtain ⟨e0, e1, e2, e3⟩ := h c
    refine ⟨h0.trans ((Cert.Reference15Ideal.Read.val_main_v62_eq m' c).trans ?_), h1.trans ((Cert.Reference15Ideal.Read.val_main_v65_eq m' c).trans ?_),
      h2.trans ?_, h3.trans ?_, hk⟩ <;> simp only [e0, e1, e2, e3]
    · exact ref_dz m hpre c
    · exact ref_half m hpre c
    · exact ref_dg m c
    · exact ref_db m c

end
-- ==== Proof.AdamGateUp.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Adam
public import proofs.«01_k».proof.Defs
public import Idealize.ShloMosaic.Lib.Pipeline.ValueKit
public import Idealize.ShloMosaic.Lib.Pointwise

@[expose] public section

set_option maxRecDepth 16384

noncomputable section

namespace Cert.Kernel16Ideal.AdamGateUp

open Cert.Kernel16Ideal Cert.Kernel16Ideal.Gen Idealize.ShloMosaic Idealize.ShloMosaic.TcCoe Idealize.SL.Sem

variable (m : (ℓ : Loc nD τ sig) → Buf (Elt Ideal) ℓ)

/-- The weights. -/
abbrev w (c : Dev nD) : S2048x1408.Idx → EReal := m ((c : Thread nD τ).loc main_arg0)
/-- The running mean of the gradients. -/
abbrev mu (c : Dev nD) : S2048x1408.Idx → EReal := m ((c : Thread nD τ).loc main_arg1)
/-- The running mean of the squared gradients. -/
abbrev nu (c : Dev nD) : S2048x1408.Idx → EReal := m ((c : Thread nD τ).loc main_arg2)
/-- The own chip's part of the gradient. -/
abbrev own (c : Dev nD) : S2048x1408.Idx → EReal := m ((c : Thread nD τ).loc main_arg3)
/-- The other chips' parts of the gradient. -/
abbrev got (c : Dev nD) : S3x2048x1408.Idx → EReal := m ((c : Thread nD τ).loc main_arg4)

/-- The gradient: the sum of the four chips' parts. -/
def grad (c : Dev nD) : S2048x1408.Idx → EReal := fun i =>
  own m c i + got m c (ix3 0 (i 0) (i 1)) + got m c (ix3 1 (i 0) (i 1)) + got m c (ix3 2 (i 0) (i 1))
/-- The running mean after this step. -/
def mean (c : Dev nD) : S2048x1408.Idx → EReal := fun i => Adam.mean (grad m c i) (mu m c i)
/-- The running mean of squares after this step. -/
def square (c : Dev nD) : S2048x1408.Idx → EReal := fun i => Adam.square (grad m c i) (nu m c i)
/-- How far the weights move. -/
def move (c : Dev nD) : S2048x1408.Idx → EReal := fun i => Adam.move (w m c i) (grad m c i) (mu m c i) (nu m c i)

/-- Which block each window shows at each grid point. -/
theorem idx : ∀ t : Fin grid0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 0]
    ∧ win0_6.index t = ![t.val, 0] ∧ win0_7.index t = ![t.val, 0] ∧ win0_8.index t = ![t.val, 0] := by decide +kernel

/-- What the whole output array holds at the end. -/
theorem final_grad (c : Dev nD) : (dats m 0 c).arrAt 5 cfg0.N = grad m c := by
  refine (dats m 0 c).arrAt_eq_of_covers 5 _ (by decide +kernel) fun t hf y => ?_
  blk_simp
  rw [after0_5]
  frame_out
  unfold_payloads
  pointwise
  unfold grad own got
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_move (c : Dev nD) : (dats m 0 c).arrAt 6 cfg0.N = move m c := by
  refine (dats m 0 c).arrAt_eq_of_covers 6 _ (by decide +kernel) fun t hf y => ?_
  blk_simp
  rw [after0_6]
  frame_out
  unfold_payloads
  pointwise
  unfold move Adam.move Adam.mean Adam.square grad w own got mu nu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_mean (c : Dev nD) : (dats m 0 c).arrAt 7 cfg0.N = mean m c := by
  refine (dats m 0 c).arrAt_eq_of_covers 7 _ (by decide +kernel) fun t hf y => ?_
  blk_simp
  rw [after0_7]
  frame_out
  unfold_payloads
  pointwise
  unfold mean Adam.mean grad own got mu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_square (c : Dev nD) : (dats m 0 c).arrAt 8 cfg0.N = square m c := by
  refine (dats m 0 c).arrAt_eq_of_covers 8 _ (by decide +kernel) fun t hf y => ?_
  blk_simp
  rw [after0_8]
  frame_out
  unfold_payloads
  pointwise
  unfold square Adam.square grad own got nu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- The reference computes the same function. -/
theorem ref_grad (c : Dev nD) : Cert.Reference16Ideal.Read.val_main_v3 (F := Ideal) (own m c) (got m c) = grad m c := by
  funext i
  pointwise [Cert.Reference16Ideal.Read.val_main_v3, Cert.Reference16Ideal.Read.val_main_v2, Cert.Reference16Ideal.Read.val_main_v1, Cert.Reference16Ideal.Read.val_main_v0, Cert.Reference16Ideal.Read.val_main_cst]
  unfold grad
  rw [Fin.sum_univ_three]
  simp only [add_assoc]

/-- The reference computes the same function. -/
theorem ref_mean (c : Dev nD) : Cert.Reference16Ideal.Read.val_main_v8 (F := Ideal) (mu m c) (own m c) (got m c) = mean m c := by
  funext i
  pointwise [Cert.Reference16Ideal.Read.val_main_v8, Cert.Reference16Ideal.Read.val_main_v7, Cert.Reference16Ideal.Read.val_main_v6, Cert.Reference16Ideal.Read.val_main_v5, Cert.Reference16Ideal.Read.val_main_v4, Cert.Reference16Ideal.Read.val_main_cst_0, Cert.Reference16Ideal.Read.val_main_cst_1]
  rw [ref_grad]
  rfl

/-- The reference computes the same function. -/
theorem ref_square (c : Dev nD) : Cert.Reference16Ideal.Read.val_main_v14 (F := Ideal) (nu m c) (own m c) (got m c) = square m c := by
  funext i
  pointwise [Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_cst_2, Cert.Reference16Ideal.Read.val_main_cst_3]
  rw [ref_grad]
  rfl

/-- The reference computes the same function. -/
theorem ref_move (c : Dev nD) : Cert.Reference16Ideal.Read.val_main_v27 (F := Ideal) (w m c) (mu m c) (nu m c) (own m c) (got m c) = move m c := by
  funext i
  pointwise [Cert.Reference16Ideal.Read.val_main_v27, Cert.Reference16Ideal.Read.val_main_v26, Cert.Reference16Ideal.Read.val_main_v25, Cert.Reference16Ideal.Read.val_main_v24, Cert.Reference16Ideal.Read.val_main_v23, Cert.Reference16Ideal.Read.val_main_v22, Cert.Reference16Ideal.Read.val_main_v21, Cert.Reference16Ideal.Read.val_main_v20, Cert.Reference16Ideal.Read.val_main_v19, Cert.Reference16Ideal.Read.val_main_v18, Cert.Reference16Ideal.Read.val_main_v17, Cert.Reference16Ideal.Read.val_main_v16, Cert.Reference16Ideal.Read.val_main_v15, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]
  rw [ref_mean, ref_square]
  rfl

end Cert.Kernel16Ideal.AdamGateUp

open Idealize.ShloMosaic Idealize.SL.Sem in
/-- The kernel and the reference leave the same four arrays. -/
theorem Cert.Kernel16Ideal.AdamGateUp.algebraic : Cert.algebraic_Kernel16Ideal_Reference16Ideal := by
  open Cert.Kernel16Ideal.AdamGateUp in
  intro m g m' g' _ h
  refine ⟨fun c => grad m c, fun c => move m c, fun c => mean m c, fun c => square m c,
    (θ_run _ _ _).mono (fun r hr c => ?_) (Cert.Kernel16Ideal.Value.run_blocks m g),
    (θ_run _ _ _).mono (fun r hr c => ?_) (Cert.Reference16Ideal.Value.run m' g')⟩
  · obtain ⟨h0, h1, h2, h3, hk⟩ := hr c
    exact ⟨h0.trans (final_grad m c), h1.trans (final_move m c), h2.trans (final_mean m c), h3.trans (final_square m c), hk⟩
  · obtain ⟨h0, h1, h2, h3, hk⟩ := hr c
    obtain ⟨e0, e1, e2, e3, e4⟩ := h c
    refine ⟨h0.trans ?_, h1.trans ?_, h2.trans ?_, h3.trans ?_, hk⟩ <;> simp only [e0, e1, e2, e3, e4]
    · exact ref_grad m c
    · exact ref_move m c
    · exact ref_mean m c
    · exact ref_square m c

end
-- ==== Proof.AdamDown.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Adam
public import proofs.«01_k».proof.Defs
public import Idealize.ShloMosaic.Lib.Pipeline.ValueKit
public import Idealize.ShloMosaic.Lib.Pointwise

@[expose] public section

set_option maxRecDepth 16384

noncomputable section

namespace Cert.Kernel17Ideal.AdamDown

open Cert.Kernel17Ideal Cert.Kernel17Ideal.Gen Idealize.ShloMosaic Idealize.ShloMosaic.TcCoe Idealize.SL.Sem

variable (m : (ℓ : Loc nD τ sig) → Buf (Elt Ideal) ℓ)

/-- The weights. -/
abbrev w (c : Dev nD) : S704x2048.Idx → EReal := m ((c : Thread nD τ).loc main_arg0)
/-- The running mean of the gradients. -/
abbrev mu (c : Dev nD) : S704x2048.Idx → EReal := m ((c : Thread nD τ).loc main_arg1)
/-- The running mean of the squared gradients. -/
abbrev nu (c : Dev nD) : S704x2048.Idx → EReal := m ((c : Thread nD τ).loc main_arg2)
/-- The own chip's part of the gradient. -/
abbrev own (c : Dev nD) : S704x2048.Idx → EReal := m ((c : Thread nD τ).loc main_arg3)
/-- The other chips' parts of the gradient. -/
abbrev got (c : Dev nD) : S3x704x2048.Idx → EReal := m ((c : Thread nD τ).loc main_arg4)

/-- The gradient: the sum of the four chips' parts. -/
def grad (c : Dev nD) : S704x2048.Idx → EReal := fun i =>
  own m c i + got m c (ix3 0 (i 0) (i 1)) + got m c (ix3 1 (i 0) (i 1)) + got m c (ix3 2 (i 0) (i 1))
/-- The running mean after this step. -/
def mean (c : Dev nD) : S704x2048.Idx → EReal := fun i => Adam.mean (grad m c i) (mu m c i)
/-- The running mean of squares after this step. -/
def square (c : Dev nD) : S704x2048.Idx → EReal := fun i => Adam.square (grad m c i) (nu m c i)
/-- How far the weights move. -/
def move (c : Dev nD) : S704x2048.Idx → EReal := fun i => Adam.move (w m c i) (grad m c i) (mu m c i) (nu m c i)

/-- Which block each window shows at each grid point. -/
theorem idx : ∀ t : Fin grid0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 0]
    ∧ win0_6.index t = ![t.val, 0] ∧ win0_7.index t = ![t.val, 0] ∧ win0_8.index t = ![t.val, 0] := by decide +kernel

/-- What the whole output array holds at the end. -/
theorem final_grad (c : Dev nD) : (dats m 0 c).arrAt 5 cfg0.N = grad m c := by
  refine (dats m 0 c).arrAt_eq_of_covers 5 _ (by decide +kernel) fun t hf y => ?_
  blk_simp
  rw [after0_5]
  frame_out
  unfold_payloads
  pointwise
  unfold grad own got
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_move (c : Dev nD) : (dats m 0 c).arrAt 6 cfg0.N = move m c := by
  refine (dats m 0 c).arrAt_eq_of_covers 6 _ (by decide +kernel) fun t hf y => ?_
  blk_simp
  rw [after0_6]
  frame_out
  unfold_payloads
  pointwise
  unfold move Adam.move Adam.mean Adam.square grad w own got mu nu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_mean (c : Dev nD) : (dats m 0 c).arrAt 7 cfg0.N = mean m c := by
  refine (dats m 0 c).arrAt_eq_of_covers 7 _ (by decide +kernel) fun t hf y => ?_
  blk_simp
  rw [after0_7]
  frame_out
  unfold_payloads
  pointwise
  unfold mean Adam.mean grad own got mu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- What the whole output array holds at the end. -/
theorem final_square (c : Dev nD) : (dats m 0 c).arrAt 8 cfg0.N = square m c := by
  refine (dats m 0 c).arrAt_eq_of_covers 8 _ (by decide +kernel) fun t hf y => ?_
  blk_simp
  rw [after0_8]
  frame_out
  unfold_payloads
  pointwise
  unfold square Adam.square grad own got nu
  change @Eq EReal _ _
  blk_point [iblk, V, (idx t).1, (idx t).2.1, (idx t).2.2.1, (idx t).2.2.2.1, (idx t).2.2.2.2.1, (idx t).2.2.2.2.2.1,
    (idx t).2.2.2.2.2.2.1, (idx t).2.2.2.2.2.2.2.1, (idx t).2.2.2.2.2.2.2.2]

/-- The reference computes the same function. -/
theorem ref_grad (c : Dev nD) : Cert.Reference17Ideal.Read.val_main_v3 (F := Ideal) (own m c) (got m c) = grad m c := by
  funext i
  pointwise [Cert.Reference17Ideal.Read.val_main_v3, Cert.Reference17Ideal.Read.val_main_v2, Cert.Reference17Ideal.Read.val_main_v1, Cert.Reference17Ideal.Read.val_main_v0, Cert.Reference17Ideal.Read.val_main_cst]
  unfold grad
  rw [Fin.sum_univ_three]
  simp only [add_assoc]

/-- The reference computes the same function. -/
theorem ref_mean (c : Dev nD) : Cert.Reference17Ideal.Read.val_main_v8 (F := Ideal) (mu m c) (own m c) (got m c) = mean m c := by
  funext i
  pointwise [Cert.Reference17Ideal.Read.val_main_v8, Cert.Reference17Ideal.Read.val_main_v7, Cert.Reference17Ideal.Read.val_main_v6, Cert.Reference17Ideal.Read.val_main_v5, Cert.Reference17Ideal.Read.val_main_v4, Cert.Reference17Ideal.Read.val_main_cst_0, Cert.Reference17Ideal.Read.val_main_cst_1]
  rw [ref_grad]
  rfl

/-- The reference computes the same function. -/
theorem ref_square (c : Dev nD) : Cert.Reference17Ideal.Read.val_main_v14 (F := Ideal) (nu m c) (own m c) (got m c) = square m c := by
  funext i
  pointwise [Cert.Reference17Ideal.Read.val_main_v14, Cert.Reference17Ideal.Read.val_main_v13, Cert.Reference17Ideal.Read.val_main_v12, Cert.Reference17Ideal.Read.val_main_v11, Cert.Reference17Ideal.Read.val_main_v10, Cert.Reference17Ideal.Read.val_main_v9, Cert.Reference17Ideal.Read.val_main_cst_2, Cert.Reference17Ideal.Read.val_main_cst_3]
  rw [ref_grad]
  rfl

/-- The reference computes the same function. -/
theorem ref_move (c : Dev nD) : Cert.Reference17Ideal.Read.val_main_v27 (F := Ideal) (w m c) (mu m c) (nu m c) (own m c) (got m c) = move m c := by
  funext i
  pointwise [Cert.Reference17Ideal.Read.val_main_v27, Cert.Reference17Ideal.Read.val_main_v26, Cert.Reference17Ideal.Read.val_main_v25, Cert.Reference17Ideal.Read.val_main_v24, Cert.Reference17Ideal.Read.val_main_v23, Cert.Reference17Ideal.Read.val_main_v22, Cert.Reference17Ideal.Read.val_main_v21, Cert.Reference17Ideal.Read.val_main_v20, Cert.Reference17Ideal.Read.val_main_v19, Cert.Reference17Ideal.Read.val_main_v18, Cert.Reference17Ideal.Read.val_main_v17, Cert.Reference17Ideal.Read.val_main_v16, Cert.Reference17Ideal.Read.val_main_v15, Cert.Reference17Ideal.Read.val_main_cst_4, Cert.Reference17Ideal.Read.val_main_cst_5, Cert.Reference17Ideal.Read.val_main_cst_6, Cert.Reference17Ideal.Read.val_main_cst_7, Cert.Reference17Ideal.Read.val_main_cst_8]
  rw [ref_mean, ref_square]
  rfl

end Cert.Kernel17Ideal.AdamDown

open Idealize.ShloMosaic Idealize.SL.Sem in
/-- The kernel and the reference leave the same four arrays. -/
theorem Cert.Kernel17Ideal.AdamDown.algebraic : Cert.algebraic_Kernel17Ideal_Reference17Ideal := by
  open Cert.Kernel17Ideal.AdamDown in
  intro m g m' g' _ h
  refine ⟨fun c => grad m c, fun c => move m c, fun c => mean m c, fun c => square m c,
    (θ_run _ _ _).mono (fun r hr c => ?_) (Cert.Kernel17Ideal.Value.run_blocks m g),
    (θ_run _ _ _).mono (fun r hr c => ?_) (Cert.Reference17Ideal.Value.run m' g')⟩
  · obtain ⟨h0, h1, h2, h3, hk⟩ := hr c
    exact ⟨h0.trans (final_grad m c), h1.trans (final_move m c), h2.trans (final_mean m c), h3.trans (final_square m c), hk⟩
  · obtain ⟨h0, h1, h2, h3, hk⟩ := hr c
    obtain ⟨e0, e1, e2, e3, e4⟩ := h c
    refine ⟨h0.trans ?_, h1.trans ?_, h2.trans ?_, h3.trans ?_, hk⟩ <;> simp only [e0, e1, e2, e3, e4]
    · exact ref_grad m c
    · exact ref_move m c
    · exact ref_mean m c
    · exact ref_square m c

end
-- ==== Proof.AdamSmall.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
public import proofs.«01_k».proof.Defs
public import Idealize.ShloMosaic.Lib.Pipeline.ValueKit
public import Idealize.ShloMosaic.Lib.Pointwise

@[expose] public section

set_option maxRecDepth 16384

noncomputable section

namespace Cert.Kernel18Ideal.AdamSmall

open Cert.Kernel18Ideal Cert.Kernel18Ideal.Gen Idealize.ShloMosaic Idealize.ShloMosaic.TcCoe Idealize.SL.Sem

variable (m : (ℓ : Loc nD τ sig) → Buf (Elt Ideal) ℓ)

/-- The weights. -/
abbrev w (c : Dev nD) : S1200x128.Idx → EReal := m ((c : Thread nD τ).loc main_arg0)
/-- The gradients. -/
abbrev grad (c : Dev nD) : S1200x128.Idx → EReal := m ((c : Thread nD τ).loc main_arg1)
/-- The running mean of the gradients. -/
abbrev mu (c : Dev nD) : S1200x128.Idx → EReal := m ((c : Thread nD τ).loc main_arg2)
/-- The running mean of the squared gradients. -/
abbrev nu (c : Dev nD) : S1200x128.Idx → EReal := m ((c : Thread nD τ).loc main_arg3)

/-- The running mean after this step. -/
def mean (c : Dev nD) : S1200x128.Idx → EReal := fun i => Adam.mean (grad m c i) (mu m c i)
/-- The running mean of squares after this step. -/
def square (c : Dev nD) : S1200x128.Idx → EReal := fun i => Adam.square (grad m c i) (nu m c i)
/-- How far the weights move. -/
def move (c : Dev nD) : S1200x128.Idx → EReal := fun i => Adam.move (w m c i) (grad m c i) (mu m c i) (nu m c i)

/-- Which block each window shows at each grid point. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] := by decide +kernel

/-- What the whole output array holds at the end. -/
theorem final_move (c : Dev nD) : (dats m 0 c).arrAt 4 cfg0.N = move m c := by
  refine (dats m 0 c).arrAt_eq_of_covers 4 _ (by decide +kernel) fun t hf y => ?_
  blk_simp
  rw [after0_4]
  frame_out
  unfold_payloads
  pointwise
  unfold move Adam.move Adam.mean Adam.square grad w mu nu
  change @Eq EReal _ _
  blk_point [iblk, V, (idx t).1, (idx t).2.1, (idx t).2.2.1, (idx t).2.2.2.1, (idx t).2.2.2.2.1, (idx t).2.2.2.2.2.1,
    (idx t).2.2.2.2.2.2]

/-- What the whole output array holds at the end. -/
theorem final_mean (c : Dev nD) : (dats m 0 c).arrAt 5 cfg0.N = mean m c := by
  refine (dats m 0 c).arrAt_eq_of_covers 5 _ (by decide +kernel) fun t hf y => ?_
  blk_simp
  rw [after0_5]
  frame_out
  unfold_payloads
  pointwise
  unfold mean Adam.mean grad mu
  change @Eq EReal _ _
  blk_point [iblk, V, (idx t).1, (idx t).2.1, (idx t).2.2.1, (idx t).2.2.2.1, (idx t).2.2.2.2.1, (idx t).2.2.2.2.2.1,
    (idx t).2.2.2.2.2.2]

/-- What the whole output array holds at the end. -/
theorem final_square (c : Dev nD) : (dats m 0 c).arrAt 6 cfg0.N = square m c := by
  refine (dats m 0 c).arrAt_eq_of_covers 6 _ (by decide +kernel) fun t hf y => ?_
  blk_simp
  rw [after0_6]
  frame_out
  unfold_payloads
  pointwise
  unfold square Adam.square grad nu
  change @Eq EReal _ _
  blk_point [iblk, V, (idx t).1, (idx t).2.1, (idx t).2.2.1, (idx t).2.2.2.1, (idx t).2.2.2.2.1, (idx t).2.2.2.2.2.1,
    (idx t).2.2.2.2.2.2]

/-- The reference computes the same function. -/
theorem ref_mean (c : Dev nD) : Cert.Reference18Ideal.Read.val_main_v4 (F := Ideal) (grad m c) (mu m c) = mean m c := by
  funext i
  pointwise [Cert.Reference18Ideal.Read.val_main_v4, Cert.Reference18Ideal.Read.val_main_v3, Cert.Reference18Ideal.Read.val_main_v2, Cert.Reference18Ideal.Read.val_main_v1, Cert.Reference18Ideal.Read.val_main_v0, Cert.Reference18Ideal.Read.val_main_cst, Cert.Reference18Ideal.Read.val_main_cst_0]
  rfl

/-- The reference computes the same function. -/
theorem ref_square (c : Dev nD) : Cert.Reference18Ideal.Read.val_main_v10 (F := Ideal) (grad m c) (nu m c) = square m c := by
  funext i
  pointwise [Cert.Reference18Ideal.Read.val_main_v10, Cert.Reference18Ideal.Read.val_main_v9, Cert.Reference18Ideal.Read.val_main_v8, Cert.Reference18Ideal.Read.val_main_v7, Cert.Reference18Ideal.Read.val_main_v6, Cert.Reference18Ideal.Read.val_main_v5, Cert.Reference18Ideal.Read.val_main_cst_1, Cert.Reference18Ideal.Read.val_main_cst_2]
  rfl

/-- The reference computes the same function. -/
theorem ref_move (c : Dev nD) : Cert.Reference18Ideal.Read.val_main_v23 (F := Ideal) (w m c) (grad m c) (mu m c) (nu m c) = move m c := by
  funext i
  pointwise [Cert.Reference18Ideal.Read.val_main_v23, Cert.Reference18Ideal.Read.val_main_v22, Cert.Reference18Ideal.Read.val_main_v21, Cert.Reference18Ideal.Read.val_main_v20, Cert.Reference18Ideal.Read.val_main_v19, Cert.Reference18Ideal.Read.val_main_v18, Cert.Reference18Ideal.Read.val_main_v17, Cert.Reference18Ideal.Read.val_main_v16, Cert.Reference18Ideal.Read.val_main_v15, Cert.Reference18Ideal.Read.val_main_v14, Cert.Reference18Ideal.Read.val_main_v13, Cert.Reference18Ideal.Read.val_main_v12, Cert.Reference18Ideal.Read.val_main_v11, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]
  rw [ref_mean, ref_square]
  rfl

end Cert.Kernel18Ideal.AdamSmall

open Idealize.ShloMosaic Idealize.SL.Sem in
/-- The kernel and the reference leave the same three arrays. -/
theorem Cert.Kernel18Ideal.AdamSmall.algebraic : Cert.algebraic_Kernel18Ideal_Reference18Ideal := by
  open Cert.Kernel18Ideal.AdamSmall in
  intro m g m' g' _ h
  refine ⟨fun c => move m c, fun c => mean m c, fun c => square m c,
    (θ_run _ _ _).mono (fun r hr c => ?_) (Cert.Kernel18Ideal.Value.run_blocks m g),
    (θ_run _ _ _).mono (fun r hr c => ?_) (Cert.Reference18Ideal.Value.run m' g')⟩
  · obtain ⟨h1, h2, h3, hk⟩ := hr c
    exact ⟨h1.trans (final_move m c), h2.trans (final_mean m c), h3.trans (final_square m c), hk⟩
  · obtain ⟨h1, h2, h3, hk⟩ := hr c
    obtain ⟨e0, e1, e2, e3⟩ := h c
    refine ⟨h1.trans ?_, h2.trans ?_, h3.trans ?_, hk⟩ <;> simp only [e0, e1, e2, e3]
    · exact ref_move m c
    · exact ref_mean m c
    · exact ref_square m c

end
-- ==== Proof.SumSmall.lean ====
module

public import proofs.«01_k».proof.Proof.Gen.Kernel19Ideal.Value
public import proofs.«01_k».proof.Proof.Gen.Reference19Ideal.Run
public import proofs.«01_k».proof.Proof.Gen.Reference19Ideal.Read
public import proofs.«01_k».proof.Defs

@[expose] public section

set_option maxRecDepth 16384

noncomputable section

namespace Cert.Kernel19Ideal.SumSmall

open Cert.Kernel19Ideal Cert.Kernel19Ideal.Gen Idealize.ShloMosaic Idealize.ShloMosaic.TcCoe Idealize.SL.Sem

/-- Entry `i` of the part that device `k` sent. -/
abbrev entry (k : Fin 8) (i : S1424x128.Idx) : S8x1424x128.Idx := Cert.Reference19Ideal.Read.idx_main_v0 i k

/-- The sum of the eight devices' parts. -/
def total (parts : S8x1424x128.Idx → EReal) : S1424x128.Idx → EReal := fun i => ∑ k : Fin 8, parts (entry k i)

/-- Adding the parts one after the other gives their sum. -/
theorem kernel_total (parts : S8x1424x128.Idx → EReal) : Value.G1 (F := Ideal) parts = total parts := by
  funext i
  rw [← Value.out1_eq]
  unfold out0_1
  rw [Value.canon1_eq]
  unfold total
  rw [Fin.sum_univ_eight]
  have e : ∀ (k : Fin 8) (j : S8x1424x128.Idx), (∀ a, (j a).val = (entry k i a).val) → parts j = parts (entry k i) :=
    fun k j h => congrArg parts (funext fun a => Fin.ext (h a))
  have row : ∀ a : Fin 2, 0 + 1 * (i a).val = (i a).val := fun a => by omega
  change @Eq EReal _ _
  refine congrArg₂ (fun s t : EReal => s + t) (congrArg₂ (fun s t : EReal => s + t)
    (congrArg₂ (fun s t : EReal => s + t) (congrArg₂ (fun s t : EReal => s + t) (congrArg₂ (fun s t : EReal => s + t)
    (congrArg₂ (fun s t : EReal => s + t) (congrArg₂ (fun s t : EReal => s + t) (e 0 _ ?_) (e 1 _ ?_)) (e 2 _ ?_))
    (e 3 _ ?_)) (e 4 _ ?_)) (e 5 _ ?_)) (e 6 _ ?_)) (e 7 _ ?_) <;>
  · intro a
    match a with
    | ⟨0, _⟩ => rfl
    | ⟨1, _⟩ => exact row 0
    | ⟨2, _⟩ => exact row 1

/-- The reference is that sum, started at zero. -/
theorem ref_total (parts : S8x1424x128.Idx → EReal) : Cert.Reference19Ideal.Read.val_main_v0 (F := Ideal) parts = total parts := by
  funext i
  rw [Cert.Reference19Ideal.Read.val_main_v0_apply, Cert.Reference19Ideal.Read.val_main_cst_apply]
  show (Ideal.ofBits .f32 0x00000000#32 : EReal) + _ = _
  rw [Ideal.ofBits_zero_f32]
  exact zero_add _

end Cert.Kernel19Ideal.SumSmall

open Idealize.ShloMosaic Idealize.SL.Sem in
/-- The kernel and the reference leave the same sum. -/
theorem Cert.Kernel19Ideal.SumSmall.algebraic : Cert.algebraic_Kernel19Ideal_Reference19Ideal := by
  open Cert.Kernel19Ideal.SumSmall in
  intro m g m' g' _ h
  refine ⟨fun c => total (m ((c.tc : Thread Cert.Kernel19Ideal.nD Cert.Kernel19Ideal.τ).loc Cert.Kernel19Ideal.main_arg0)),
    (θ_run _ _ _).mono (fun r hr c => ?_) (Cert.Kernel19Ideal.Value.run m g),
    (θ_run _ _ _).mono (fun r hr c => ?_) (Cert.Reference19Ideal.Value.run m' g')⟩
  · exact ⟨(hr c).1.trans (kernel_total _), (hr c).2⟩
  · refine ⟨(hr c).1.trans ?_, (hr c).2⟩
    rw [h c]
    exact ref_total _

end
-- ==== Proof.lean ====
module

public import proofs.«01_k».proof.Defs
public import proofs.«01_k».proof.Proof.Gen.Kernel2.Frame
public import proofs.«01_k».proof.Proof.FfnBwd
public import proofs.«01_k».proof.Proof.Gen.Kernel3.Frame
public import proofs.«01_k».proof.Proof.DwDown
public import proofs.«01_k».proof.Proof.Gen.Kernel4.Frame
public import proofs.«01_k».proof.Proof.DwGateUp
public import proofs.«01_k».proof.Proof.Gen.Kernel5.Frame
public import proofs.«01_k».proof.Proof.FfnBwdAct
public import proofs.«01_k».proof.Proof.Gen.Kernel6.Frame
public import proofs.«01_k».proof.Proof.FfnBwdDx
public import proofs.«01_k».proof.Proof.Gen.Kernel7.Frame
public import proofs.«01_k».proof.Proof.MixInBwd
public import proofs.«01_k».proof.Proof.Gen.Kernel8.Frame
public import proofs.«01_k».proof.Proof.MixOutBwd
public import proofs.«01_k».proof.Proof.Gen.Kernel9.Frame
public import proofs.«01_k».proof.Proof.MixOutDw
public import proofs.«01_k».proof.Proof.Gen.Kernel10.Frame
public import proofs.«01_k».proof.Proof.MixInDw
public import proofs.«01_k».proof.Proof.Gen.Kernel11.Frame
public import proofs.«01_k».proof.Proof.FfnDownFwd
public import proofs.«01_k».proof.Proof.Gen.Kernel12.Frame
public import proofs.«01_k».proof.Proof.MixOutFwd
public import proofs.«01_k».proof.Proof.Gen.Kernel13.Frame
public import proofs.«01_k».proof.Proof.MixIn
public import proofs.«01_k».proof.Proof.Gen.Kernel14.Frame
public import proofs.«01_k».proof.Proof.FfnFwdLoss
public import proofs.«01_k».proof.Proof.Gen.Kernel15.Frame
public import proofs.«01_k».proof.Proof.LnBwd
public import proofs.«01_k».proof.Proof.Gen.Kernel16.Frame
public import proofs.«01_k».proof.Proof.AdamGateUp
public import proofs.«01_k».proof.Proof.Gen.Kernel17.Frame
public import proofs.«01_k».proof.Proof.AdamDown
public import proofs.«01_k».proof.Proof.Gen.Kernel18.Frame
public import proofs.«01_k».proof.Proof.AdamSmall
public import proofs.«01_k».proof.Proof.Gen.Kernel19.Frame
public import proofs.«01_k».proof.Proof.SumSmall

@[expose] public section

noncomputable section

namespace Cert.Proof

open Idealize.ShloMosaic Idealize.SL.Sem

/-- The reference of call 2 terminates, leaves its arguments and declares no semaphore. -/
theorem frame_reference2Ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

/-- The reference of call 2 terminates, leaves its arguments and declares no semaphore. -/
theorem frame_reference2Ideal_pre : Cert.quiescent_Reference2Ideal_pre_finite2 := fun m ρ _ =>
  (θ_run Cert.Reference2Ideal.defs _ _).mono (fun r h => ⟨fun c => (h c).2.2.2, sem_eq_zero_of_no_sems (by decide) r.2⟩)
    (Cert.Reference2Ideal.Value.run m ρ)

/-- The reference of call 3 terminates, leaves its arguments and declares no semaphore. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference of call 4 terminates, leaves its arguments and declares no semaphore. -/
theorem frame_reference4Ideal : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run m ρ)

/-- The reference of call 5 terminates, leaves its arguments and declares no semaphore. -/
theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- The reference of call 5 terminates, leaves its arguments and declares no semaphore. -/
theorem frame_reference5Ideal_pre : Cert.quiescent_Reference5Ideal_pre_finite5 := fun m ρ _ =>
  (θ_run Cert.Reference5Ideal.defs _ _).mono (fun r h => ⟨fun c => (h c).2.2, sem_eq_zero_of_no_sems (by decide) r.2⟩)
    (Cert.Reference5Ideal.Value.run m ρ)

/-- The reference of call 6 terminates, leaves its arguments and declares no semaphore. -/
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The reference of call 7 terminates, leaves its arguments and declares no semaphore. -/
theorem frame_reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The reference of call 8 terminates, leaves its arguments and declares no semaphore. -/
theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The reference of call 9 terminates, leaves its arguments and declares no semaphore. -/
theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The reference of call 10 terminates, leaves its arguments and declares no semaphore. -/
theorem frame_reference10Ideal : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run m ρ)

/-- The reference of call 11 terminates, leaves its arguments and declares no semaphore. -/
theorem frame_reference11Ideal : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run m ρ)

/-- The reference of call 12 terminates, leaves its arguments and declares no semaphore. -/
theorem frame_reference12Ideal : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run m ρ)

/-- The reference of call 13 terminates, leaves its arguments and declares no semaphore. -/
theorem frame_reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- The reference of call 14 terminates, leaves its arguments and declares no semaphore. -/
theorem frame_reference14Ideal : Cert.quiescent_Reference14Ideal := fun m ρ _ =>
  (θ_run Cert.Reference14Ideal.defs _ _).mono (fun r h => ⟨fun c => (h c).2.2.2.2.2.2.2.2, sem_eq_zero_of_no_sems (by decide) r.2⟩)
    (Cert.Reference14Ideal.Value.run m ρ)

/-- The reference of call 14 terminates, leaves its arguments and declares no semaphore. -/
theorem frame_reference14Ideal_pre : Cert.quiescent_Reference14Ideal_pre_finite14 := fun m ρ _ =>
  (θ_run Cert.Reference14Ideal.defs _ _).mono (fun r h => ⟨fun c => (h c).2.2.2.2.2.2.2.2, sem_eq_zero_of_no_sems (by decide) r.2⟩)
    (Cert.Reference14Ideal.Value.run m ρ)

/-- The reference of call 15 terminates, leaves its arguments and declares no semaphore. -/
theorem frame_reference15Ideal : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run m ρ)

/-- The reference of call 15 terminates, leaves its arguments and declares no semaphore. -/
theorem frame_reference15Ideal_pre : Cert.quiescent_Reference15Ideal_pre_finite15 := fun m ρ _ =>
  (θ_run Cert.Reference15Ideal.defs _ _).mono (fun r h => ⟨fun c => (h c).2.2.2.2, sem_eq_zero_of_no_sems (by decide) r.2⟩)
    (Cert.Reference15Ideal.Value.run m ρ)

/-- The reference of call 16 terminates, leaves its arguments and declares no semaphore. -/
theorem frame_reference16Ideal : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run m ρ)

/-- The reference of call 17 terminates, leaves its arguments and declares no semaphore. -/
theorem frame_reference17Ideal : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run m ρ)

/-- The reference of call 18 terminates, leaves its arguments and declares no semaphore. -/
theorem frame_reference18Ideal : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run m ρ)

/-- The reference of call 19 terminates, leaves its arguments and declares no semaphore. -/
theorem frame_reference19Ideal : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

/-- Everything this certificate claims. -/
theorem claim : Cert.Claim :=
  ⟨Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts,
    Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts,
    Cert.Kernel11Ideal.Gen.facts, Cert.Reference11Ideal.Gen.facts, Cert.Kernel12.Gen.facts, Cert.Kernel12Ideal.Gen.facts,
    Cert.Reference12Ideal.Gen.facts, Cert.Kernel13.Gen.facts, Cert.Kernel13Ideal.Gen.facts, Cert.Reference13Ideal.Gen.facts,
    Cert.Kernel14.Gen.facts, Cert.Kernel14Ideal.Gen.facts, Cert.Reference14Ideal.Gen.facts, Cert.Kernel15.Gen.facts,
    Cert.Kernel15Ideal.Gen.facts, Cert.Reference15Ideal.Gen.facts, Cert.Kernel16.Gen.facts, Cert.Kernel16Ideal.Gen.facts,
    Cert.Reference16Ideal.Gen.facts, Cert.Kernel17.Gen.facts, Cert.Kernel17Ideal.Gen.facts, Cert.Reference17Ideal.Gen.facts,
    Cert.Kernel18.Gen.facts, Cert.Kernel18Ideal.Gen.facts, Cert.Reference18Ideal.Gen.facts, Cert.Kernel19.Gen.facts,
    Cert.Kernel19Ideal.Gen.facts, Cert.Reference19Ideal.Gen.facts, Cert.Pre_finite2.Gen.facts, Cert.Pre_finite5.Gen.facts,
    Cert.Pre_finite14.Gen.facts, Cert.Pre_finite15.Gen.facts,
    fun m ρ _ => Cert.Kernel2.Gen.frame m ρ,
    fun m ρ _ => Cert.Kernel2Ideal.Gen.frame m ρ,
    fun m ρ _ => Cert.Kernel2Ideal.Gen.frame m ρ,
    frame_reference2Ideal,
    frame_reference2Ideal_pre,
    fun m ρ _ => Cert.Kernel3.Gen.frame m ρ,
    fun m ρ _ => Cert.Kernel3Ideal.Gen.frame m ρ,
    frame_reference3Ideal,
    fun m ρ _ => Cert.Kernel4.Gen.frame m ρ,
    fun m ρ _ => Cert.Kernel4Ideal.Gen.frame m ρ,
    frame_reference4Ideal,
    fun m ρ _ => Cert.Kernel5.Gen.frame m ρ,
    fun m ρ _ => Cert.Kernel5Ideal.Gen.frame m ρ,
    fun m ρ _ => Cert.Kernel5Ideal.Gen.frame m ρ,
    frame_reference5Ideal,
    frame_reference5Ideal_pre,
    fun m ρ _ => Cert.Kernel6.Gen.frame m ρ,
    fun m ρ _ => Cert.Kernel6Ideal.Gen.frame m ρ,
    frame_reference6Ideal,
    fun m ρ _ => Cert.Kernel7.Gen.frame m ρ,
    fun m ρ _ => Cert.Kernel7Ideal.Gen.frame m ρ,
    frame_reference7Ideal,
    fun m ρ _ => Cert.Kernel8.Gen.frame m ρ,
    fun m ρ _ => Cert.Kernel8Ideal.Gen.frame m ρ,
    frame_reference8Ideal,
    fun m ρ _ => Cert.Kernel9.Gen.frame m ρ,
    fun m ρ _ => Cert.Kernel9Ideal.Gen.frame m ρ,
    frame_reference9Ideal,
    fun m ρ _ => Cert.Kernel10.Gen.frame m ρ,
    fun m ρ _ => Cert.Kernel10Ideal.Gen.frame m ρ,
    frame_reference10Ideal,
    fun m ρ _ => Cert.Kernel11.Gen.frame m ρ,
    fun m ρ _ => Cert.Kernel11Ideal.Gen.frame m ρ,
    frame_reference11Ideal,
    fun m ρ _ => Cert.Kernel12.Gen.frame m ρ,
    fun m ρ _ => Cert.Kernel12Ideal.Gen.frame m ρ,
    frame_reference12Ideal,
    fun m ρ _ => Cert.Kernel13.Gen.frame m ρ,
    fun m ρ _ => Cert.Kernel13Ideal.Gen.frame m ρ,
    frame_reference13Ideal,
    fun m ρ _ => Cert.Kernel14.Gen.frame m ρ,
    fun m ρ _ => Cert.Kernel14Ideal.Gen.frame m ρ,
    fun m ρ _ => Cert.Kernel14Ideal.Gen.frame m ρ,
    frame_reference14Ideal,
    frame_reference14Ideal_pre,
    fun m ρ _ => Cert.Kernel15.Gen.frame m ρ,
    fun m ρ _ => Cert.Kernel15Ideal.Gen.frame m ρ,
    fun m ρ _ => Cert.Kernel15Ideal.Gen.frame m ρ,
    frame_reference15Ideal,
    frame_reference15Ideal_pre,
    fun m ρ _ => Cert.Kernel16.Gen.frame m ρ,
    fun m ρ _ => Cert.Kernel16Ideal.Gen.frame m ρ,
    frame_reference16Ideal,
    fun m ρ _ => Cert.Kernel17.Gen.frame m ρ,
    fun m ρ _ => Cert.Kernel17Ideal.Gen.frame m ρ,
    frame_reference17Ideal,
    fun m ρ _ => Cert.Kernel18.Gen.frame m ρ,
    fun m ρ _ => Cert.Kernel18Ideal.Gen.frame m ρ,
    frame_reference18Ideal,
    fun m ρ _ => Cert.Kernel19.Gen.frame m ρ,
    fun m ρ _ => Cert.Kernel19Ideal.Gen.frame m ρ,
    frame_reference19Ideal,
    trivial,
    Cert.Kernel2Ideal.FfnBwd.algebraic,
    trivial,
    Cert.Kernel3Ideal.Dw.algebraic,
    trivial,
    Cert.Kernel4Ideal.DwGateUp.algebraic,
    trivial,
    Cert.Kernel5Ideal.FfnAct.algebraic,
    trivial,
    Cert.Kernel6Ideal.FfnDx.algebraic,
    trivial,
    Cert.Kernel7Ideal.MixInBwd.algebraic,
    trivial,
    Cert.Kernel8Ideal.MixOut.algebraic,
    trivial,
    Cert.Kernel9Ideal.Dw.algebraic,
    trivial,
    Cert.Kernel10Ideal.Dw.algebraic,
    trivial,
    Cert.Kernel11Ideal.FfnDown.algebraic,
    trivial,
    Cert.Kernel12Ideal.MixOut.algebraic,
    trivial,
    Cert.Kernel13Ideal.MixIn.algebraic,
    trivial,
    Cert.Kernel14Ideal.Loss.algebraic,
    trivial,
    Cert.Kernel15Ideal.LnBwd.algebraic,
    trivial,
    Cert.Kernel16Ideal.AdamGateUp.algebraic,
    trivial,
    Cert.Kernel17Ideal.AdamDown.algebraic,
    trivial,
    Cert.Kernel18Ideal.AdamSmall.algebraic,
    trivial,
    Cert.Kernel19Ideal.SumSmall.algebraic⟩

end Cert.Proof

end
